-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3E3504F3#32 (((Real.sqrt 32)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x512x512 : Shape := ⟨3, ![8, 512, 512]⟩
abbrev S512x512 : Shape := ⟨2, ![512, 512]⟩
abbrev S1024x32 : Shape := ⟨2, ![1024, 32]⟩
abbrev S32 : Shape := ⟨1, ![32]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_v29 : IVec S_ 1) (main_v32 : IVec S1024x32 1) (main_c_12 : IVec S_ 1) : IVec S_ 1 :=
  let main_v33 : IVec S_ 1 := (fun x v => Host.reduce IntOp.andi x v reducesTo_S1024x32_S_d0_1 h_S_) main_v32 main_c_12
  let main_v34 : IVec S_ 1 := andi main_v29 main_v33
  main_v34

def fn_part1 {F : FTy → Type} [FloatOps F] (main_arg4 : FVec F S1024x32 .f32) (main_arg5 : FVec F S32 .f32) (main_arg6 : FVec F S1024x32 .f32) (main_v14 : IVec S_ 1) (main_v15 : FVec F S512x512 .f32) (main_cst_5 : FVec F S_ .f32) : IVec S_ 1 :=
  let main_v16 : FVec F S512x512 .f32 := broadcastInDim S512x512 ![] bcast_S_S512x512 main_cst_5
  let main_v17 : IVec S512x512 1 := cmpf .olt main_v15 main_v16
  let main_c_6 : IVec S_ 1 := constantI S_ 1 1#1
  let main_v18 : IVec S_ 1 := (fun x v => Host.reduce IntOp.andi x v reducesTo_S512x512_S_d0_1 h_S_) main_v17 main_c_6
  let main_v19 : IVec S_ 1 := andi main_v14 main_v18
  let main_v20 : FVec F S1024x32 .f32 := Host.absf main_arg4
  let main_cst_7 : FVec F S_ .f32 := constant S_ .f32 0x7F800000#32
  let main_v21 : FVec F S1024x32 .f32 := broadcastInDim S1024x32 ![] bcast_S_S1024x32 main_cst_7
  let main_v22 : IVec S1024x32 1 := cmpf .olt main_v20 main_v21
  let main_c_8 : IVec S_ 1 := constantI S_ 1 1#1
  let main_v23 : IVec S_ 1 := (fun x v => Host.reduce IntOp.andi x v reducesTo_S1024x32_S_d0_1 h_S_) main_v22 main_c_8
  let main_v24 : IVec S_ 1 := andi main_v19 main_v23
  let main_v25 : FVec F S32 .f32 := Host.absf main_arg5
  let main_cst_9 : FVec F S_ .f32 := constant S_ .f32 0x7F800000#32
  let main_v26 : FVec F S32 .f32 := broadcastInDim S32 ![] bcast_S_S32 main_cst_9
  let main_v27 : IVec S32 1 := cmpf .olt main_v25 main_v26
  let main_c_10 : IVec S_ 1 := constantI S_ 1 1#1
  let main_v28 : IVec S_ 1 := (fun x v => Host.reduce IntOp.andi x v reducesTo_S32_S_d0 h_S_) main_v27 main_c_10
  let main_v29 : IVec S_ 1 := andi main_v24 main_v28
  let main_v30 : FVec F S1024x32 .f32 := Host.absf main_arg6
  let main_cst_11 : FVec F S_ .f32 := constant S_ .f32 0x7F800000#32
  let main_v31 : FVec F S1024x32 .f32 := broadcastInDim S1024x32 ![] bcast_S_S1024x32 main_cst_11
  let main_v32 : IVec S1024x32 1 := cmpf .olt main_v30 main_v31
  let main_c_12 : IVec S_ 1 := constantI S_ 1 1#1
  fn_part2 (F := F) main_v29 main_v32 main_c_12

def fn {F : FTy → Type} [FloatOps F] (main_arg0 : FVec F S8x512x512 .f32) (main_arg1 : FVec F S512x512 .f32) (main_arg2 : FVec F S512x512 .f32) (main_arg3 : FVec F S512x512 .f32) (main_arg4 : FVec F S1024x32 .f32) (main_arg5 : FVec F S32 .f32) (main_arg6 : FVec F S1024x32 .f32) (main_arg7 : FVec F S32 .f32) (main_arg8 : FVec F S512x512 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_c_0 : IVec S_ 1 := constantI S_ 1 1#1
  let main_v4 : IVec S_ 1 := andi main_c_0 main_v3
  let main_v5 : FVec F S512x512 .f32 := Host.absf main_arg1
  let main_cst_1 : FVec F S_ .f32 := constant S_ .f32 0x7F800000#32
  let main_v6 : FVec F S512x512 .f32 := broadcastInDim S512x512 ![] bcast_S_S512x512 main_cst_1
  let main_v7 : IVec S512x512 1 := cmpf .olt main_v5 main_v6
  let main_c_2 : IVec S_ 1 := constantI S_ 1 1#1
  let main_v8 : IVec S_ 1 := (fun x v => Host.reduce IntOp.andi x v reducesTo_S512x512_S_d0_1 h_S_) main_v7 main_c_2
  let main_v9 : IVec S_ 1 := andi main_v4 main_v8
  let main_v10 : FVec F S512x512 .f32 := Host.absf main_arg2
  let main_cst_3 : FVec F S_ .f32 := constant S_ .f32 0x7F800000#32
  let main_v11 : FVec F S512x512 .f32 := broadcastInDim S512x512 ![] bcast_S_S512x512 main_cst_3
  let main_v12 : IVec S512x512 1 := cmpf .olt main_v10 main_v11
  let main_c_4 : IVec S_ 1 := constantI S_ 1 1#1
  let main_v13 : IVec S_ 1 := (fun x v => Host.reduce IntOp.andi x v reducesTo_S512x512_S_d0_1 h_S_) main_v12 main_c_4
  let main_v14 : IVec S_ 1 := andi main_v9 main_v13
  let main_v15 : FVec F S512x512 .f32 := Host.absf main_arg3
  let main_cst_5 : FVec F S_ .f32 := constant S_ .f32 0x7F800000#32
  fn_part1 (F := F) main_arg4 main_arg5 main_arg6 main_v14 main_v15 main_cst_5
-- ==== Kernel.lean ====
abbrev S8x512x512 : Shape := ⟨3, ![8, 512, 512]⟩
abbrev S512x512 : Shape := ⟨2, ![512, 512]⟩
abbrev S1024x32 : Shape := ⟨2, ![1024, 32]⟩
abbrev S32 : Shape := ⟨1, ![32]⟩
abbrev S_ : Shape := ⟨0, ![]⟩
abbrev S64x512 : Shape := ⟨2, ![64, 512]⟩
abbrev S512x64 : Shape := ⟨2, ![512, 64]⟩
abbrev S32x512 : Shape := ⟨2, ![32, 512]⟩
abbrev S512x32 : Shape := ⟨2, ![512, 32]⟩
abbrev S16x512 : Shape := ⟨2, ![16, 512]⟩
abbrev S512x16 : Shape := ⟨2, ![512, 16]⟩
abbrev S8x512 : Shape := ⟨2, ![8, 512]⟩
abbrev S512x8 : Shape := ⟨2, ![512, 8]⟩
abbrev S4x512 : Shape := ⟨2, ![4, 512]⟩
abbrev S512x4 : Shape := ⟨2, ![512, 4]⟩
abbrev S2x512 : Shape := ⟨2, ![2, 512]⟩
abbrev S512x2 : Shape := ⟨2, ![512, 2]⟩
abbrev S1x512 : Shape := ⟨2, ![1, 512]⟩
abbrev S512x1 : Shape := ⟨2, ![512, 1]⟩
abbrev S127x512 : Shape := ⟨2, ![127, 512]⟩
abbrev S64x2048 : Shape := ⟨2, ![64, 2048]⟩
abbrev S640x512 : Shape := ⟨2, ![640, 512]⟩
abbrev S512x127 : Shape := ⟨2, ![512, 127]⟩
abbrev S1024x64 : Shape := ⟨2, ![1024, 64]⟩
abbrev S512x1536 : Shape := ⟨2, ![512, 1536]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S1x512x512 : Shape := ⟨3, ![1, 512, 512]⟩
abbrev S512x2048 : Shape := ⟨2, ![512, 2048]⟩
abbrev S512x1024 : Shape := ⟨2, ![512, 1024]⟩
abbrev S512x128 : Shape := ⟨2, ![512, 128]⟩
abbrev S640x128 : Shape := ⟨2, ![640, 128]⟩
abbrev S1x128 : Shape := ⟨2, ![1, 128]⟩
abbrev S127x128 : Shape := ⟨2, ![127, 128]⟩
abbrev S127x32 : Shape := ⟨2, ![127, 32]⟩
abbrev S512 : Shape := ⟨1, ![512]⟩

abbrev nBuf : Space → Nat
  | .hbm => 208
  | .vmem => 12
  | .smem => 0
  | _ => 0

abbrev hbmTy0_0 (i : Nat) : BufTy := match i % 128 with
  | 0 => ⟨S8x512x512, .f32⟩
  | 1 => ⟨S512x512, .f32⟩
  | 2 => ⟨S512x512, .f32⟩
  | 3 => ⟨S512x512, .f32⟩
  | 4 => ⟨S1024x32, .f32⟩
  | 5 => ⟨S32, .f32⟩
  | 6 => ⟨S1024x32, .f32⟩
  | 7 => ⟨S32, .f32⟩
  | 8 => ⟨S512x512, .f32⟩
  | 9 => ⟨S512x512, .i32⟩
  | 10 => ⟨S512x512, .i32⟩
  | 11 => ⟨S_, .i32⟩
  | 12 => ⟨S512x512, .i32⟩
  | 13 => ⟨S512x512, .i32⟩
  | 14 => ⟨S_, .i32⟩
  | 15 => ⟨S512x512, .i32⟩
  | 16 => ⟨S512x512, .i32⟩
  | 17 => ⟨S512x512, .i1⟩
  | 18 => ⟨S512x512, .i1⟩
  | 19 => ⟨S512x512, .i1⟩
  | 20 => ⟨S_, .f32⟩
  | 21 => ⟨S_, .f32⟩
  | 22 => ⟨S512x512, .f32⟩
  | 23 => ⟨S512x512, .f32⟩
  | 24 => ⟨S512x512, .f32⟩
  | 25 => ⟨S64x512, .i32⟩
  | 26 => ⟨S_, .i32⟩
  | 27 => ⟨S64x512, .i32⟩
  | 28 => ⟨S64x512, .i32⟩
  | 29 => ⟨S64x512, .i32⟩
  | 30 => ⟨S64x512, .i1⟩
  | 31 => ⟨S_, .f32⟩
  | 32 => ⟨S_, .f32⟩
  | 33 => ⟨S64x512, .f32⟩
  | 34 => ⟨S64x512, .f32⟩
  | 35 => ⟨S64x512, .f32⟩
  | 36 => ⟨S512x64, .i32⟩
  | 37 => ⟨S_, .i32⟩
  | 38 => ⟨S512x64, .i32⟩
  | 39 => ⟨S512x64, .i32⟩
  | 40 => ⟨S_, .i32⟩
  | 41 => ⟨S512x64, .i32⟩
  | 42 => ⟨S512x64, .i32⟩
  | 43 => ⟨S32x512, .i32⟩
  | 44 => ⟨S_, .i32⟩
  | 45 => ⟨S32x512, .i32⟩
  | 46 => ⟨S32x512, .i32⟩
  | 47 => ⟨S32x512, .i32⟩
  | 48 => ⟨S32x512, .i1⟩
  | 49 => ⟨S_, .f32⟩
  | 50 => ⟨S_, .f32⟩
  | 51 => ⟨S32x512, .f32⟩
  | 52 => ⟨S32x512, .f32⟩
  | 53 => ⟨S32x512, .f32⟩
  | 54 => ⟨S512x32, .i32⟩
  | 55 => ⟨S_, .i32⟩
  | 56 => ⟨S512x32, .i32⟩
  | 57 => ⟨S512x32, .i32⟩
  | 58 => ⟨S_, .i32⟩
  | 59 => ⟨S512x32, .i32⟩
  | 60 => ⟨S512x32, .i32⟩
  | 61 => ⟨S16x512, .i32⟩
  | 62 => ⟨S_, .i32⟩
  | 63 => ⟨S16x512, .i32⟩
  | 64 => ⟨S16x512, .i32⟩
  | 65 => ⟨S16x512, .i32⟩
  | 66 => ⟨S16x512, .i1⟩
  | 67 => ⟨S_, .f32⟩
  | 68 => ⟨S_, .f32⟩
  | 69 => ⟨S16x512, .f32⟩
  | 70 => ⟨S16x512, .f32⟩
  | 71 => ⟨S16x512, .f32⟩
  | 72 => ⟨S512x16, .i32⟩
  | 73 => ⟨S_, .i32⟩
  | 74 => ⟨S512x16, .i32⟩
  | 75 => ⟨S512x16, .i32⟩
  | 76 => ⟨S_, .i32⟩
  | 77 => ⟨S512x16, .i32⟩
  | 78 => ⟨S512x16, .i32⟩
  | 79 => ⟨S8x512, .i32⟩
  | 80 => ⟨S_, .i32⟩
  | 81 => ⟨S8x512, .i32⟩
  | 82 => ⟨S8x512, .i32⟩
  | 83 => ⟨S8x512, .i32⟩
  | 84 => ⟨S8x512, .i1⟩
  | 85 => ⟨S_, .f32⟩
  | 86 => ⟨S_, .f32⟩
  | 87 => ⟨S8x512, .f32⟩
  | 88 => ⟨S8x512, .f32⟩
  | 89 => ⟨S8x512, .f32⟩
  | 90 => ⟨S512x8, .i32⟩
  | 91 => ⟨S_, .i32⟩
  | 92 => ⟨S512x8, .i32⟩
  | 93 => ⟨S512x8, .i32⟩
  | 94 => ⟨S_, .i32⟩
  | 95 => ⟨S512x8, .i32⟩
  | 96 => ⟨S512x8, .i32⟩
  | 97 => ⟨S4x512, .i32⟩
  | 98 => ⟨S_, .i32⟩
  | 99 => ⟨S4x512, .i32⟩
  | 100 => ⟨S4x512, .i32⟩
  | 101 => ⟨S4x512, .i32⟩
  | 102 => ⟨S4x512, .i1⟩
  | 103 => ⟨S_, .f32⟩
  | 104 => ⟨S_, .f32⟩
  | 105 => ⟨S4x512, .f32⟩
  | 106 => ⟨S4x512, .f32⟩
  | 107 => ⟨S4x512, .f32⟩
  | 108 => ⟨S512x4, .i32⟩
  | 109 => ⟨S_, .i32⟩
  | 110 => ⟨S512x4, .i32⟩
  | 111 => ⟨S512x4, .i32⟩
  | 112 => ⟨S_, .i32⟩
  | 113 => ⟨S512x4, .i32⟩
  | 114 => ⟨S512x4, .i32⟩
  | 115 => ⟨S2x512, .i32⟩
  | 116 => ⟨S_, .i32⟩
  | 117 => ⟨S2x512, .i32⟩
  | 118 => ⟨S2x512, .i32⟩
  | 119 => ⟨S2x512, .i32⟩
  | 120 => ⟨S2x512, .i1⟩
  | 121 => ⟨S_, .f32⟩
  | 122 => ⟨S_, .f32⟩
  | 123 => ⟨S2x512, .f32⟩
  | 124 => ⟨S2x512, .f32⟩
  | 125 => ⟨S2x512, .f32⟩
  | 126 => ⟨S512x2, .i32⟩
  | 127 => ⟨S_, .i32⟩
  | _ => ⟨S8x512x512, .f32⟩

abbrev hbmTy0_1 (i : Nat) : BufTy := match i % 128 with
  | 0 => ⟨S512x2, .i32⟩
  | 1 => ⟨S512x2, .i32⟩
  | 2 => ⟨S_, .i32⟩
  | 3 => ⟨S512x2, .i32⟩
  | 4 => ⟨S512x2, .i32⟩
  | 5 => ⟨S1x512, .i32⟩
  | 6 => ⟨S_, .i32⟩
  | 7 => ⟨S1x512, .i32⟩
  | 8 => ⟨S1x512, .i32⟩
  | 9 => ⟨S1x512, .i32⟩
  | 10 => ⟨S1x512, .i1⟩
  | 11 => ⟨S_, .f32⟩
  | 12 => ⟨S_, .f32⟩
  | 13 => ⟨S1x512, .f32⟩
  | 14 => ⟨S1x512, .f32⟩
  | 15 => ⟨S1x512, .f32⟩
  | 16 => ⟨S512x1, .i32⟩
  | 17 => ⟨S_, .i32⟩
  | 18 => ⟨S512x1, .i32⟩
  | 19 => ⟨S512x1, .i32⟩
  | 20 => ⟨S_, .i32⟩
  | 21 => ⟨S512x1, .i32⟩
  | 22 => ⟨S512x1, .i32⟩
  | 23 => ⟨S127x512, .f32⟩
  | 24 => ⟨S64x2048, .i32⟩
  | 25 => ⟨S64x2048, .i32⟩
  | 26 => ⟨S_, .i32⟩
  | 27 => ⟨S64x2048, .i32⟩
  | 28 => ⟨S64x2048, .i32⟩
  | 29 => ⟨S64x2048, .i1⟩
  | 30 => ⟨S_, .f32⟩
  | 31 => ⟨S_, .f32⟩
  | 32 => ⟨S64x2048, .f32⟩
  | 33 => ⟨S64x2048, .f32⟩
  | 34 => ⟨S64x2048, .f32⟩
  | 35 => ⟨S_, .i32⟩
  | 36 => ⟨S64x2048, .i32⟩
  | 37 => ⟨S64x2048, .i32⟩
  | 38 => ⟨S_, .i32⟩
  | 39 => ⟨S64x2048, .i32⟩
  | 40 => ⟨S64x2048, .i32⟩
  | 41 => ⟨S64x2048, .i1⟩
  | 42 => ⟨S_, .i32⟩
  | 43 => ⟨S64x2048, .i32⟩
  | 44 => ⟨S64x2048, .i32⟩
  | 45 => ⟨S_, .i32⟩
  | 46 => ⟨S64x2048, .i32⟩
  | 47 => ⟨S64x2048, .i32⟩
  | 48 => ⟨S64x2048, .i1⟩
  | 49 => ⟨S64x2048, .i1⟩
  | 50 => ⟨S_, .f32⟩
  | 51 => ⟨S_, .f32⟩
  | 52 => ⟨S64x2048, .f32⟩
  | 53 => ⟨S64x2048, .f32⟩
  | 54 => ⟨S64x2048, .f32⟩
  | 55 => ⟨S_, .f32⟩
  | 56 => ⟨S1x512, .f32⟩
  | 57 => ⟨S640x512, .f32⟩
  | 58 => ⟨S512x127, .i32⟩
  | 59 => ⟨S512x127, .i32⟩
  | 60 => ⟨S_, .i32⟩
  | 61 => ⟨S512x127, .i32⟩
  | 62 => ⟨S512x127, .i32⟩
  | 63 => ⟨S_, .i32⟩
  | 64 => ⟨S512x127, .i32⟩
  | 65 => ⟨S512x127, .i32⟩
  | 66 => ⟨S512x127, .i1⟩
  | 67 => ⟨S_, .f32⟩
  | 68 => ⟨S_, .f32⟩
  | 69 => ⟨S512x127, .f32⟩
  | 70 => ⟨S512x127, .f32⟩
  | 71 => ⟨S512x127, .f32⟩
  | 72 => ⟨S1024x64, .f32⟩
  | 73 => ⟨S512x1536, .f32⟩
  | 74 => ⟨S64, .f32⟩
  | 75 => ⟨S1x64, .f32⟩
  | 76 => ⟨S16x64, .f32⟩
  | 77 => ⟨S1024, .f32⟩
  | 78 => ⟨S1x1024, .f32⟩
  | 79 => ⟨S8x512x512, .f32⟩
  | _ => ⟨S8x512x512, .f32⟩

abbrev hbmTy (i : Nat) : BufTy := match i / 128 with
  | 0 => hbmTy0_0 i
  | 1 => hbmTy0_1 i
  | _ => ⟨S8x512x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S512x1536, .f32⟩
  | .local _ .vmem, ⟨3, _⟩ => ⟨S1024x64, .f32⟩
  | .local _ .vmem, ⟨4, _⟩ => ⟨S1x1024, .f32⟩
  | .local _ .vmem, ⟨5, _⟩ => ⟨S512x512, .f32⟩
  | .local _ .vmem, ⟨6, _⟩ => ⟨S640x512, .f32⟩
  | .local _ .vmem, ⟨7, _⟩ => ⟨S512x127, .f32⟩
  | .local _ .vmem, ⟨8, _⟩ => ⟨S64x2048, .f32⟩
  | .local _ .vmem, ⟨9, _⟩ => ⟨S64x2048, .f32⟩
  | .local _ .vmem, ⟨10, _⟩ => ⟨S1x512x512, .f32⟩
  | .local _ .vmem, ⟨11, _⟩ => ⟨S1x512x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v26 : Ref sig .tc := ⟨.hbm, 53, rfl⟩
abbrev main_v27 : Ref sig .tc := ⟨.hbm, 54, rfl⟩
abbrev main_c_10 : Ref sig .tc := ⟨.hbm, 55, rfl⟩
abbrev main_v28 : Ref sig .tc := ⟨.hbm, 56, rfl⟩
abbrev main_v29 : Ref sig .tc := ⟨.hbm, 57, rfl⟩
abbrev main_c_11 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_cst_14 : Ref sig .tc := ⟨.hbm, 68, rfl⟩
abbrev main_call3_v0 : Ref sig .tc := ⟨.hbm, 69, rfl⟩
abbrev main_call3_v1 : Ref sig .tc := ⟨.hbm, 70, rfl⟩
abbrev main_v37 : Ref sig .tc := ⟨.hbm, 71, rfl⟩
abbrev main_v38 : Ref sig .tc := ⟨.hbm, 72, rfl⟩
abbrev main_c_15 : Ref sig .tc := ⟨.hbm, 73, rfl⟩
abbrev main_v39 : Ref sig .tc := ⟨.hbm, 74, rfl⟩
abbrev main_v40 : Ref sig .tc := ⟨.hbm, 75, rfl⟩
abbrev main_c_16 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_17 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_18 : Ref sig .tc := ⟨.hbm, 85, rfl⟩
abbrev main_cst_19 : Ref sig .tc := ⟨.hbm, 86, rfl⟩
abbrev main_call4_v0 : Ref sig .tc := ⟨.hbm, 87, rfl⟩
abbrev main_call4_v1 : Ref sig .tc := ⟨.hbm, 88, rfl⟩
abbrev main_v48 : Ref sig .tc := ⟨.hbm, 89, rfl⟩
abbrev main_v49 : Ref sig .tc := ⟨.hbm, 90, rfl⟩
abbrev main_c_20 : Ref sig .tc := ⟨.hbm, 91, rfl⟩
abbrev main_v50 : Ref sig .tc := ⟨.hbm, 92, rfl⟩
abbrev main_v51 : Ref sig .tc := ⟨.hbm, 93, rfl⟩
abbrev main_c_21 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_22 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_23 : Ref sig .tc := ⟨.hbm, 103, rfl⟩
abbrev main_cst_24 : Ref sig .tc := ⟨.hbm, 104, rfl⟩
abbrev main_call5_v0 : Ref sig .tc := ⟨.hbm, 105, rfl⟩
abbrev main_call5_v1 : Ref sig .tc := ⟨.hbm, 106, rfl⟩
abbrev main_v59 : Ref sig .tc := ⟨.hbm, 107, rfl⟩
abbrev main_v60 : Ref sig .tc := ⟨.hbm, 108, rfl⟩
abbrev main_c_25 : Ref sig .tc := ⟨.hbm, 109, rfl⟩
abbrev main_v61 : Ref sig .tc := ⟨.hbm, 110, rfl⟩
abbrev main_v62 : Ref sig .tc := ⟨.hbm, 111, rfl⟩
abbrev main_c_26 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_c_27 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_28 : Ref sig .tc := ⟨.hbm, 121, rfl⟩
abbrev main_cst_29 : Ref sig .tc := ⟨.hbm, 122, rfl⟩
abbrev main_call6_v0 : Ref sig .tc := ⟨.hbm, 123, rfl⟩
abbrev main_call6_v1 : Ref sig .tc := ⟨.hbm, 124, rfl⟩
abbrev main_v70 : Ref sig .tc := ⟨.hbm, 125, rfl⟩
abbrev main_v71 : Ref sig .tc := ⟨.hbm, 126, rfl⟩
abbrev main_c_30 : Ref sig .tc := ⟨.hbm, 127, rfl⟩
abbrev main_v72 : Ref sig .tc := ⟨.hbm, 128, rfl⟩
abbrev main_v73 : Ref sig .tc := ⟨.hbm, 129, rfl⟩
abbrev main_c_31 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_c_32 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_33 : Ref sig .tc := ⟨.hbm, 139, rfl⟩
abbrev main_cst_34 : Ref sig .tc := ⟨.hbm, 140, rfl⟩
abbrev main_call7_v0 : Ref sig .tc := ⟨.hbm, 141, rfl⟩
abbrev main_call7_v1 : Ref sig .tc := ⟨.hbm, 142, rfl⟩
abbrev main_v81 : Ref sig .tc := ⟨.hbm, 143, rfl⟩
abbrev main_v82 : Ref sig .tc := ⟨.hbm, 144, rfl⟩
abbrev main_c_35 : Ref sig .tc := ⟨.hbm, 145, rfl⟩
abbrev main_v83 : Ref sig .tc := ⟨.hbm, 146, rfl⟩
abbrev main_v84 : Ref sig .tc := ⟨.hbm, 147, rfl⟩
abbrev main_c_36 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_c_37 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_38 : Ref sig .tc := ⟨.hbm, 158, rfl⟩
abbrev main_cst_39 : Ref sig .tc := ⟨.hbm, 159, rfl⟩
abbrev main_call8_v0 : Ref sig .tc := ⟨.hbm, 160, rfl⟩
abbrev main_call8_v1 : Ref sig .tc := ⟨.hbm, 161, rfl⟩
abbrev main_v93 : Ref sig .tc := ⟨.hbm, 162, rfl⟩
abbrev main_c_40 : Ref sig .tc := ⟨.hbm, 163, rfl⟩
abbrev main_v94 : Ref sig .tc := ⟨.hbm, 164, rfl⟩
abbrev main_v95 : Ref sig .tc := ⟨.hbm, 165, rfl⟩
abbrev main_c_41 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_c_42 : Ref sig .tc := ⟨.hbm, 170, rfl⟩
abbrev main_v99 : Ref sig .tc := ⟨.hbm, 171, rfl⟩
abbrev main_v100 : Ref sig .tc := ⟨.hbm, 172, rfl⟩
abbrev main_c_43 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_44 : Ref sig .tc := ⟨.hbm, 178, rfl⟩
abbrev main_cst_45 : Ref sig .tc := ⟨.hbm, 179, rfl⟩
abbrev main_call9_v0 : Ref sig .tc := ⟨.hbm, 180, rfl⟩
abbrev main_call9_v1 : Ref sig .tc := ⟨.hbm, 181, rfl⟩
abbrev main_v105 : Ref sig .tc := ⟨.hbm, 182, rfl⟩
abbrev main_cst_46 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_47 : Ref sig .tc := ⟨.hbm, 188, rfl⟩
abbrev main_v110 : Ref sig .tc := ⟨.hbm, 189, rfl⟩
abbrev main_v111 : Ref sig .tc := ⟨.hbm, 190, rfl⟩
abbrev main_c_48 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_cst_49 : Ref sig .tc := ⟨.hbm, 195, rfl⟩
abbrev main_cst_50 : Ref sig .tc := ⟨.hbm, 196, rfl⟩
abbrev main_call10_v0 : Ref sig .tc := ⟨.hbm, 197, rfl⟩
abbrev main_call10_v1 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x127 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | "scale" => some (((Real.sqrt 32)⁻¹ : ℝ) : EReal)
  | _ => none
-- ==== ReferenceIdeal.lean ====
abbrev S8x512x512 : Shape := ⟨3, ![8, 512, 512]⟩
abbrev S512x512 : Shape := ⟨2, ![512, 512]⟩
abbrev S1024x32 : Shape := ⟨2, ![1024, 32]⟩
abbrev S32 : Shape := ⟨1, ![32]⟩
abbrev S8x512x16x32 : Shape := ⟨4, ![8, 512, 16, 32]⟩
abbrev S_ : Shape := ⟨0, ![]⟩
abbrev S8x64x8x16x32 : Shape := ⟨5, ![8, 64, 8, 16, 32]⟩
abbrev S8x64x16x32x32 : Shape := ⟨5, ![8, 64, 16, 32, 32]⟩
abbrev S8x64x16x1024 : Shape := ⟨4, ![8, 64, 16, 1024]⟩
abbrev S64 : Shape := ⟨1, ![64]⟩
abbrev S8x32x16x16x32 : Shape := ⟨5, ![8, 32, 16, 16, 32]⟩
abbrev S8x32x16x32x32 : Shape := ⟨5, ![8, 32, 16, 32, 32]⟩
abbrev S8x32x16x1024 : Shape := ⟨4, ![8, 32, 16, 1024]⟩
abbrev S8x16x32x16x32 : Shape := ⟨5, ![8, 16, 32, 16, 32]⟩
abbrev S8x16x16x32x32 : Shape := ⟨5, ![8, 16, 16, 32, 32]⟩
abbrev S8x16x16x1024 : Shape := ⟨4, ![8, 16, 16, 1024]⟩
abbrev S16 : Shape := ⟨1, ![16]⟩
abbrev S8x8x64x16x32 : Shape := ⟨5, ![8, 8, 64, 16, 32]⟩
abbrev S8x8x16x32x32 : Shape := ⟨5, ![8, 8, 16, 32, 32]⟩
abbrev S8x8x16x1024 : Shape := ⟨4, ![8, 8, 16, 1024]⟩
abbrev S8 : Shape := ⟨1, ![8]⟩
abbrev S8x4x128x16x32 : Shape := ⟨5, ![8, 4, 128, 16, 32]⟩
abbrev S8x4x16x32x32 : Shape := ⟨5, ![8, 4, 16, 32, 32]⟩
abbrev S8x4x16x1024 : Shape := ⟨4, ![8, 4, 16, 1024]⟩
abbrev S4 : Shape := ⟨1, ![4]⟩
abbrev S8x2x256x16x32 : Shape := ⟨5, ![8, 2, 256, 16, 32]⟩
abbrev S8x2x16x32x32 : Shape := ⟨5, ![8, 2, 16, 32, 32]⟩
abbrev S8x2x16x1024 : Shape := ⟨4, ![8, 2, 16, 1024]⟩
abbrev S2 : Shape := ⟨1, ![2]⟩
abbrev S8x1x512x16x32 : Shape := ⟨5, ![8, 1, 512, 16, 32]⟩
abbrev S8x1x16x32x32 : Shape := ⟨5, ![8, 1, 16, 32, 32]⟩
abbrev S8x1x16x1024 : Shape := ⟨4, ![8, 1, 16, 1024]⟩
abbrev S1 : Shape := ⟨1, ![1]⟩
abbrev S8x127x16x1024 : Shape := ⟨4, ![8, 127, 16, 1024]⟩
abbrev S8x127x16x32 : Shape := ⟨4, ![8, 127, 16, 32]⟩
abbrev S1x1x1x32 : Shape := ⟨4, ![1, 1, 1, 32]⟩
abbrev S127 : Shape := ⟨1, ![127]⟩
abbrev S512 : Shape := ⟨1, ![512]⟩
abbrev S1x127 : Shape := ⟨2, ![1, 127]⟩
abbrev S512x1 : Shape := ⟨2, ![512, 1]⟩
abbrev S512x127 : Shape := ⟨2, ![512, 127]⟩
abbrev S8x16x512x127 : Shape := ⟨4, ![8, 16, 512, 127]⟩
abbrev S1x1x512x127 : Shape := ⟨4, ![1, 1, 512, 127]⟩
abbrev S8x64x8x16x32x1 : Shape := ⟨6, ![8, 64, 8, 16, 32, 1]⟩
abbrev S8x64x8x16x1x32 : Shape := ⟨6, ![8, 64, 8, 16, 1, 32]⟩
abbrev S8x64x8x16x32x32 : Shape := ⟨6, ![8, 64, 8, 16, 32, 32]⟩
abbrev S8x512x16x1024 : Shape := ⟨4, ![8, 512, 16, 1024]⟩
abbrev S8x512x16 : Shape := ⟨3, ![8, 512, 16]⟩
abbrev S8x16x512 : Shape := ⟨3, ![8, 16, 512]⟩
abbrev S8x16x512x1 : Shape := ⟨4, ![8, 16, 512, 1]⟩
abbrev S8x16x512x128 : Shape := ⟨4, ![8, 16, 512, 128]⟩
abbrev S8x16x32x512 : Shape := ⟨4, ![8, 16, 32, 512]⟩
abbrev S8x512x16x1 : Shape := ⟨4, ![8, 512, 16, 1]⟩

abbrev nBuf : Space → Nat
  | .hbm => 231
  | .vmem => 0
  | .smem => 0
  | _ => 0

abbrev hbmTy0_0 (i : Nat) : BufTy := match i % 128 with
  | 0 => ⟨S8x512x512, .f32⟩
  | 1 => ⟨S512x512, .f32⟩
  | 2 => ⟨S512x512, .f32⟩
  | 3 => ⟨S512x512, .f32⟩
  | 4 => ⟨S1024x32, .f32⟩
  | 5 => ⟨S32, .f32⟩
  | 6 => ⟨S1024x32, .f32⟩
  | 7 => ⟨S32, .f32⟩
  | 8 => ⟨S512x512, .f32⟩
  | 9 => ⟨S8x512x512, .f32⟩
  | 10 => ⟨S8x512x16x32, .f32⟩
  | 11 => ⟨S8x512x512, .f32⟩
  | 12 => ⟨S8x512x16x32, .f32⟩
  | 13 => ⟨S8x512x512, .f32⟩
  | 14 => ⟨S8x512x16x32, .f32⟩
  | 15 => ⟨S_, .f32⟩
  | 16 => ⟨S8x512x16x32, .f32⟩
  | 17 => ⟨S8x512x16x32, .i1⟩
  | 18 => ⟨S_, .f32⟩
  | 19 => ⟨S8x512x16x32, .f32⟩
  | 20 => ⟨S8x512x16x32, .i1⟩
  | 21 => ⟨S_, .f32⟩
  | 22 => ⟨S_, .f32⟩
  | 23 => ⟨S8x512x16x32, .f32⟩
  | 24 => ⟨S8x512x16x32, .f32⟩
  | 25 => ⟨S8x512x16x32, .f32⟩
  | 26 => ⟨S_, .f32⟩
  | 27 => ⟨S8x512x16x32, .f32⟩
  | 28 => ⟨S8x512x16x32, .f32⟩
  | 29 => ⟨S8x512x16x32, .f32⟩
  | 30 => ⟨S_, .f32⟩
  | 31 => ⟨S8x512x16x32, .f32⟩
  | 32 => ⟨S8x512x16x32, .f32⟩
  | 33 => ⟨S_, .f32⟩
  | 34 => ⟨S8x512x16x32, .f32⟩
  | 35 => ⟨S8x512x16x32, .i1⟩
  | 36 => ⟨S_, .f32⟩
  | 37 => ⟨S8x512x16x32, .f32⟩
  | 38 => ⟨S8x512x16x32, .i1⟩
  | 39 => ⟨S_, .f32⟩
  | 40 => ⟨S_, .f32⟩
  | 41 => ⟨S8x512x16x32, .f32⟩
  | 42 => ⟨S8x512x16x32, .f32⟩
  | 43 => ⟨S8x512x16x32, .f32⟩
  | 44 => ⟨S_, .f32⟩
  | 45 => ⟨S8x512x16x32, .f32⟩
  | 46 => ⟨S8x512x16x32, .f32⟩
  | 47 => ⟨S8x512x16x32, .f32⟩
  | 48 => ⟨S_, .f32⟩
  | 49 => ⟨S8x512x16x32, .f32⟩
  | 50 => ⟨S8x512x16x32, .f32⟩
  | 51 => ⟨S8x64x8x16x32, .f32⟩
  | 52 => ⟨S8x64x8x16x32, .f32⟩
  | 53 => ⟨S8x64x16x32x32, .f32⟩
  | 54 => ⟨S8x64x16x1024, .f32⟩
  | 55 => ⟨S64, .i32⟩
  | 56 => ⟨S_, .i32⟩
  | 57 => ⟨S64, .i32⟩
  | 58 => ⟨S64, .i32⟩
  | 59 => ⟨S_, .i32⟩
  | 60 => ⟨S64, .i32⟩
  | 61 => ⟨S64, .i32⟩
  | 62 => ⟨S8x32x16x16x32, .f32⟩
  | 63 => ⟨S8x32x16x16x32, .f32⟩
  | 64 => ⟨S8x32x16x32x32, .f32⟩
  | 65 => ⟨S8x32x16x1024, .f32⟩
  | 66 => ⟨S32, .i32⟩
  | 67 => ⟨S_, .i32⟩
  | 68 => ⟨S32, .i32⟩
  | 69 => ⟨S32, .i32⟩
  | 70 => ⟨S_, .i32⟩
  | 71 => ⟨S32, .i32⟩
  | 72 => ⟨S32, .i32⟩
  | 73 => ⟨S8x16x32x16x32, .f32⟩
  | 74 => ⟨S8x16x32x16x32, .f32⟩
  | 75 => ⟨S8x16x16x32x32, .f32⟩
  | 76 => ⟨S8x16x16x1024, .f32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S8x8x64x16x32, .f32⟩
  | 85 => ⟨S8x8x64x16x32, .f32⟩
  | 86 => ⟨S8x8x16x32x32, .f32⟩
  | 87 => ⟨S8x8x16x1024, .f32⟩
  | 88 => ⟨S8, .i32⟩
  | 89 => ⟨S_, .i32⟩
  | 90 => ⟨S8, .i32⟩
  | 91 => ⟨S8, .i32⟩
  | 92 => ⟨S_, .i32⟩
  | 93 => ⟨S8, .i32⟩
  | 94 => ⟨S8, .i32⟩
  | 95 => ⟨S8x4x128x16x32, .f32⟩
  | 96 => ⟨S8x4x128x16x32, .f32⟩
  | 97 => ⟨S8x4x16x32x32, .f32⟩
  | 98 => ⟨S8x4x16x1024, .f32⟩
  | 99 => ⟨S4, .i32⟩
  | 100 => ⟨S_, .i32⟩
  | 101 => ⟨S4, .i32⟩
  | 102 => ⟨S4, .i32⟩
  | 103 => ⟨S_, .i32⟩
  | 104 => ⟨S4, .i32⟩
  | 105 => ⟨S4, .i32⟩
  | 106 => ⟨S8x2x256x16x32, .f32⟩
  | 107 => ⟨S8x2x256x16x32, .f32⟩
  | 108 => ⟨S8x2x16x32x32, .f32⟩
  | 109 => ⟨S8x2x16x1024, .f32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S8x1x512x16x32, .f32⟩
  | 118 => ⟨S8x1x512x16x32, .f32⟩
  | 119 => ⟨S8x1x16x32x32, .f32⟩
  | 120 => ⟨S8x1x16x1024, .f32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S8x512x512, .f32⟩

abbrev hbmTy0_1 (i : Nat) : BufTy := match i % 128 with
  | 0 => ⟨S8x127x16x1024, .f32⟩
  | 1 => ⟨S8x127x16x32, .f32⟩
  | 2 => ⟨S1x1x1x32, .f32⟩
  | 3 => ⟨S8x127x16x32, .f32⟩
  | 4 => ⟨S8x127x16x32, .f32⟩
  | 5 => ⟨S8x127x16x32, .f32⟩
  | 6 => ⟨S1x1x1x32, .f32⟩
  | 7 => ⟨S8x127x16x32, .f32⟩
  | 8 => ⟨S8x127x16x32, .f32⟩
  | 9 => ⟨S127, .i32⟩
  | 10 => ⟨S512, .i32⟩
  | 11 => ⟨S_, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S512, .i32⟩
  | 20 => ⟨S512, .i32⟩
  | 21 => ⟨S_, .i32⟩
  | 22 => ⟨S512, .i32⟩
  | 23 => ⟨S512, .i1⟩
  | 24 => ⟨S512, .i1⟩
  | 25 => ⟨S_, .i32⟩
  | 26 => ⟨S512, .i32⟩
  | 27 => ⟨S512, .i32⟩
  | 28 => ⟨S512, .i32⟩
  | 29 => ⟨S_, .i32⟩
  | 30 => ⟨S512, .i32⟩
  | 31 => ⟨S512, .i32⟩
  | 32 => ⟨S1x127, .i32⟩
  | 33 => ⟨S512x1, .i32⟩
  | 34 => ⟨S512x127, .i32⟩
  | 35 => ⟨S512x127, .i32⟩
  | 36 => ⟨S512x127, .i1⟩
  | 37 => ⟨S8x16x512x127, .f32⟩
  | 38 => ⟨S_, .f32⟩
  | 39 => ⟨S_, .f32⟩
  | 40 => ⟨S8x16x512x127, .f32⟩
  | 41 => ⟨S8x16x512x127, .f32⟩
  | 42 => ⟨S1x1x512x127, .i1⟩
  | 43 => ⟨S_, .f32⟩
  | 44 => ⟨S_, .f32⟩
  | 45 => ⟨S8x16x512x127, .i1⟩
  | 46 => ⟨S8x16x512x127, .f32⟩
  | 47 => ⟨S8x16x512x127, .f32⟩
  | 48 => ⟨S8x64x8x16x32, .f32⟩
  | 49 => ⟨S8x64x8x16x32, .f32⟩
  | 50 => ⟨S8x64x8x16x32x1, .f32⟩
  | 51 => ⟨S8x64x8x16x1x32, .f32⟩
  | 52 => ⟨S8x64x8x16x32x32, .f32⟩
  | 53 => ⟨S8x64x8x16x32x32, .f32⟩
  | 54 => ⟨S8x64x8x16x32x32, .f32⟩
  | 55 => ⟨S_, .f32⟩
  | 56 => ⟨S_, .f32⟩
  | 57 => ⟨S8x64x8x16x32x32, .f32⟩
  | 58 => ⟨S8x512x16x1024, .f32⟩
  | 59 => ⟨S8x512x16x32, .f32⟩
  | 60 => ⟨S1x1x1x32, .f32⟩
  | 61 => ⟨S8x512x16x32, .f32⟩
  | 62 => ⟨S8x512x16x32, .f32⟩
  | 63 => ⟨S8x512x16x32, .f32⟩
  | 64 => ⟨S1x1x1x32, .f32⟩
  | 65 => ⟨S8x512x16x32, .f32⟩
  | 66 => ⟨S8x512x16x32, .f32⟩
  | 67 => ⟨S8x512x16x32, .f32⟩
  | 68 => ⟨S_, .f32⟩
  | 69 => ⟨S8x512x16, .f32⟩
  | 70 => ⟨S_, .f32⟩
  | 71 => ⟨S_, .f32⟩
  | 72 => ⟨S8x512x16, .f32⟩
  | 73 => ⟨S8x512x16, .f32⟩
  | 74 => ⟨S8x16x512, .f32⟩
  | 75 => ⟨S8x16x512x1, .f32⟩
  | 76 => ⟨S8x16x512x128, .f32⟩
  | 77 => ⟨S_, .f32⟩
  | 78 => ⟨S8x16x512, .f32⟩
  | 79 => ⟨S_, .f32⟩
  | 80 => ⟨S8x16x512, .f32⟩
  | 81 => ⟨S8x16x512, .f32⟩
  | 82 => ⟨S8x16x512x1, .f32⟩
  | 83 => ⟨S8x16x512x128, .f32⟩
  | 84 => ⟨S8x16x512x128, .f32⟩
  | 85 => ⟨S8x16x512x128, .f32⟩
  | 86 => ⟨S_, .f32⟩
  | 87 => ⟨S8x16x512, .f32⟩
  | 88 => ⟨S8x16x512x1, .f32⟩
  | 89 => ⟨S8x16x512x128, .f32⟩
  | 90 => ⟨S8x16x512x128, .f32⟩
  | 91 => ⟨S8x16x512x127, .f32⟩
  | 92 => ⟨S8x16x32x512, .f32⟩
  | 93 => ⟨S8x512x16x32, .f32⟩
  | 94 => ⟨S8x16x512x1, .f32⟩
  | 95 => ⟨S8x16x512, .f32⟩
  | 96 => ⟨S8x512x16, .f32⟩
  | 97 => ⟨S8x512x16x1, .f32⟩
  | 98 => ⟨S8x512x16x32, .f32⟩
  | 99 => ⟨S8x512x16x32, .f32⟩
  | 100 => ⟨S8x512x16x32, .f32⟩
  | 101 => ⟨S8x512x512, .f32⟩
  | 102 => ⟨S8x512x512, .f32⟩
  | _ => ⟨S8x512x512, .f32⟩

abbrev hbmTy (i : Nat) : BufTy := match i / 128 with
  | 0 => hbmTy0_0 i
  | 1 => hbmTy0_1 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_cst_1 : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_v4 : Ref sig .tc := ⟨.hbm, 42, rfl⟩
abbrev main_call1_v5 : Ref sig .tc := ⟨.hbm, 43, rfl⟩
abbrev main_call1_cst_2 : Ref sig .tc := ⟨.hbm, 44, rfl⟩
abbrev main_call1_v6 : Ref sig .tc := ⟨.hbm, 45, rfl⟩
abbrev main_call1_v7 : Ref sig .tc := ⟨.hbm, 46, rfl⟩
abbrev main_v9 : Ref sig .tc := ⟨.hbm, 47, rfl⟩
abbrev main_cst_0 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_c : Ref sig .tc := ⟨.hbm, 56, rfl⟩
abbrev main_v17 : Ref sig .tc := ⟨.hbm, 57, rfl⟩
abbrev main_v18 : Ref sig .tc := ⟨.hbm, 58, rfl⟩
abbrev main_c_1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_2 : Ref sig .tc := ⟨.hbm, 67, rfl⟩
abbrev main_v26 : Ref sig .tc := ⟨.hbm, 68, rfl⟩
abbrev main_v27 : Ref sig .tc := ⟨.hbm, 69, rfl⟩
abbrev main_c_3 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_4 : Ref sig .tc := ⟨.hbm, 78, rfl⟩
abbrev main_v35 : Ref sig .tc := ⟨.hbm, 79, rfl⟩
abbrev main_v36 : Ref sig .tc := ⟨.hbm, 80, rfl⟩
abbrev main_c_5 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_6 : Ref sig .tc := ⟨.hbm, 89, rfl⟩
abbrev main_v44 : Ref sig .tc := ⟨.hbm, 90, rfl⟩
abbrev main_v45 : Ref sig .tc := ⟨.hbm, 91, rfl⟩
abbrev main_c_7 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_8 : Ref sig .tc := ⟨.hbm, 100, rfl⟩
abbrev main_v53 : Ref sig .tc := ⟨.hbm, 101, rfl⟩
abbrev main_v54 : Ref sig .tc := ⟨.hbm, 102, rfl⟩
abbrev main_c_9 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_c_10 : Ref sig .tc := ⟨.hbm, 111, rfl⟩
abbrev main_v62 : Ref sig .tc := ⟨.hbm, 112, rfl⟩
abbrev main_v63 : Ref sig .tc := ⟨.hbm, 113, rfl⟩
abbrev main_c_11 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_12 : Ref sig .tc := ⟨.hbm, 122, rfl⟩
abbrev main_v71 : Ref sig .tc := ⟨.hbm, 123, rfl⟩
abbrev main_v72 : Ref sig .tc := ⟨.hbm, 124, rfl⟩
abbrev main_c_13 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_14 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_c : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_0 : Ref sig .tc := ⟨.hbm, 153, rfl⟩
abbrev main_call2_v12 : Ref sig .tc := ⟨.hbm, 154, rfl⟩
abbrev main_call2_v13 : Ref sig .tc := ⟨.hbm, 155, rfl⟩
abbrev main_v86 : Ref sig .tc := ⟨.hbm, 156, rfl⟩
abbrev main_c_15 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_16 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_cst_17 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_call4_call0_cst : Ref sig .tc := ⟨.hbm, 183, rfl⟩
abbrev main_call4_call0_v0 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_cst_18 : Ref sig .tc := ⟨.hbm, 196, rfl⟩
abbrev main_v118 : Ref sig .tc := ⟨.hbm, 197, rfl⟩
abbrev main_cst_19 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_20 : Ref sig .tc := ⟨.hbm, 205, rfl⟩
abbrev main_v125 : Ref sig .tc := ⟨.hbm, 206, rfl⟩
abbrev main_cst_21 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_cst_22 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩

abbrev nD : Nat := 1
abbrev τ : Topo := Topo.v7x

variable {F : FTy → Type} [FloatOps F]
-- ==== Proof.Tables.lean ====
module

public import Idealize.ShloMosaic.Lib.Pointwise
public import proofs.«01_k».proof.Proof.Gen.KernelIdeal.Frame

@[expose] public section

/-! # The tables of zeros and ones the host makes -/

set_option maxRecDepth 65536

noncomputable section

namespace Cert.KernelIdeal.Host

open Idealize.ShloMosaic Idealize.ShloMosaic.TcCoe Idealize.SL.Sem
open Cert.KernelIdeal Cert.KernelIdeal.Gen

/-- Row `r` holds one at the positions of `r`'s tail. -/
def tailRows : FVec Ideal S512x512 .f32 :=
  select (andi (cmpi .eq (Host.shrsi (iotaInDim S512x512 32 0) (broadcastInDim S512x512 ![] bcast_S_S512x512 (constantI S_ 32 3#32)))
      (Host.shrsi (iotaInDim S512x512 32 1) (broadcastInDim S512x512 ![] bcast_S_S512x512 (constantI S_ 32 3#32))))
      (cmpi .sle (iotaInDim S512x512 32 1) (iotaInDim S512x512 32 0)))
    (broadcastInDim S512x512 ![] bcast_S_S512x512 (constant (F := Ideal) S_ .f32 0x3F800000#32))
    (broadcastInDim S512x512 ![] bcast_S_S512x512 (constant (F := Ideal) S_ .f32 0x00000000#32))

/-- The sets of 8 positions: row `s` holds one at the positions of set `s`. -/
def rows64 : FVec Ideal S64x512 .f32 :=
  select (cmpi .eq (Host.shrsi (iotaInDim S64x512 32 1) (broadcastInDim S64x512 ![] bcast_S_S64x512 (constantI S_ 32 3#32))) (iotaInDim S64x512 32 0))
    (broadcastInDim S64x512 ![] bcast_S_S64x512 (constant (F := Ideal) S_ .f32 0x3F800000#32))
    (broadcastInDim S64x512 ![] bcast_S_S64x512 (constant (F := Ideal) S_ .f32 0x00000000#32))

/-- Where they end. -/
def ends64 : IVec S512x64 32 :=
  Host.shli (addi (iotaInDim S512x64 32 1) (broadcastInDim S512x64 ![] bcast_S_S512x64 (constantI S_ 32 1#32))) (broadcastInDim S512x64 ![] bcast_S_S512x64 (constantI S_ 32 3#32))

/-- The sets of 16 positions: row `s` holds one at the positions of set `s`. -/
def rows32 : FVec Ideal S32x512 .f32 :=
  select (cmpi .eq (Host.shrsi (iotaInDim S32x512 32 1) (broadcastInDim S32x512 ![] bcast_S_S32x512 (constantI S_ 32 4#32))) (iotaInDim S32x512 32 0))
    (broadcastInDim S32x512 ![] bcast_S_S32x512 (constant (F := Ideal) S_ .f32 0x3F800000#32))
    (broadcastInDim S32x512 ![] bcast_S_S32x512 (constant (F := Ideal) S_ .f32 0x00000000#32))

/-- Where they end. -/
def ends32 : IVec S512x32 32 :=
  Host.shli (addi (iotaInDim S512x32 32 1) (broadcastInDim S512x32 ![] bcast_S_S512x32 (constantI S_ 32 1#32))) (broadcastInDim S512x32 ![] bcast_S_S512x32 (constantI S_ 32 4#32))

/-- The sets of 32 positions: row `s` holds one at the positions of set `s`. -/
def rows16 : FVec Ideal S16x512 .f32 :=
  select (cmpi .eq (Host.shrsi (iotaInDim S16x512 32 1) (broadcastInDim S16x512 ![] bcast_S_S16x512 (constantI S_ 32 5#32))) (iotaInDim S16x512 32 0))
    (broadcastInDim S16x512 ![] bcast_S_S16x512 (constant (F := Ideal) S_ .f32 0x3F800000#32))
    (broadcastInDim S16x512 ![] bcast_S_S16x512 (constant (F := Ideal) S_ .f32 0x00000000#32))

/-- Where they end. -/
def ends16 : IVec S512x16 32 :=
  Host.shli (addi (iotaInDim S512x16 32 1) (broadcastInDim S512x16 ![] bcast_S_S512x16 (constantI S_ 32 1#32))) (broadcastInDim S512x16 ![] bcast_S_S512x16 (constantI S_ 32 5#32))

/-- The sets of 64 positions: row `s` holds one at the positions of set `s`. -/
def rows8 : FVec Ideal S8x512 .f32 :=
  select (cmpi .eq (Host.shrsi (iotaInDim S8x512 32 1) (broadcastInDim S8x512 ![] bcast_S_S8x512 (constantI S_ 32 6#32))) (iotaInDim S8x512 32 0))
    (broadcastInDim S8x512 ![] bcast_S_S8x512 (constant (F := Ideal) S_ .f32 0x3F800000#32))
    (broadcastInDim S8x512 ![] bcast_S_S8x512 (constant (F := Ideal) S_ .f32 0x00000000#32))

/-- Where they end. -/
def ends8 : IVec S512x8 32 :=
  Host.shli (addi (iotaInDim S512x8 32 1) (broadcastInDim S512x8 ![] bcast_S_S512x8 (constantI S_ 32 1#32))) (broadcastInDim S512x8 ![] bcast_S_S512x8 (constantI S_ 32 6#32))

/-- The sets of 128 positions: row `s` holds one at the positions of set `s`. -/
def rows4 : FVec Ideal S4x512 .f32 :=
  select (cmpi .eq (Host.shrsi (iotaInDim S4x512 32 1) (broadcastInDim S4x512 ![] bcast_S_S4x512 (constantI S_ 32 7#32))) (iotaInDim S4x512 32 0))
    (broadcastInDim S4x512 ![] bcast_S_S4x512 (constant (F := Ideal) S_ .f32 0x3F800000#32))
    (broadcastInDim S4x512 ![] bcast_S_S4x512 (constant (F := Ideal) S_ .f32 0x00000000#32))

/-- Where they end. -/
def ends4 : IVec S512x4 32 :=
  Host.shli (addi (iotaInDim S512x4 32 1) (broadcastInDim S512x4 ![] bcast_S_S512x4 (constantI S_ 32 1#32))) (broadcastInDim S512x4 ![] bcast_S_S512x4 (constantI S_ 32 7#32))

/-- The sets of 256 positions: row `s` holds one at the positions of set `s`. -/
def rows2 : FVec Ideal S2x512 .f32 :=
  select (cmpi .eq (Host.shrsi (iotaInDim S2x512 32 1) (broadcastInDim S2x512 ![] bcast_S_S2x512 (constantI S_ 32 8#32))) (iotaInDim S2x512 32 0))
    (broadcastInDim S2x512 ![] bcast_S_S2x512 (constant (F := Ideal) S_ .f32 0x3F800000#32))
    (broadcastInDim S2x512 ![] bcast_S_S2x512 (constant (F := Ideal) S_ .f32 0x00000000#32))

/-- Where they end. -/
def ends2 : IVec S512x2 32 :=
  Host.shli (addi (iotaInDim S512x2 32 1) (broadcastInDim S512x2 ![] bcast_S_S512x2 (constantI S_ 32 1#32))) (broadcastInDim S512x2 ![] bcast_S_S512x2 (constantI S_ 32 8#32))

/-- The sets of 512 positions: row `s` holds one at the positions of set `s`. -/
def rows1 : FVec Ideal S1x512 .f32 :=
  select (cmpi .eq (Host.shrsi (iotaInDim S1x512 32 1) (broadcastInDim S1x512 ![] bcast_S_S1x512 (constantI S_ 32 9#32))) (iotaInDim S1x512 32 0))
    (broadcastInDim S1x512 ![] bcast_S_S1x512 (constant (F := Ideal) S_ .f32 0x3F800000#32))
    (broadcastInDim S1x512 ![] bcast_S_S1x512 (constant (F := Ideal) S_ .f32 0x00000000#32))

/-- Where they end. -/
def ends1 : IVec S512x1 32 :=
  Host.shli (addi (iotaInDim S512x1 32 1) (broadcastInDim S512x1 ![] bcast_S_S512x1 (constantI S_ 32 1#32))) (broadcastInDim S512x1 ![] bcast_S_S512x1 (constantI S_ 32 9#32))

/-- All the sets. -/
def setRows : FVec Ideal S127x512 .f32 :=
  concatenate S127x512 0 [⟨S64x512, rows64⟩, ⟨S32x512, rows32⟩, ⟨S16x512, rows16⟩, ⟨S8x512, rows8⟩, ⟨S4x512, rows4⟩, ⟨S2x512, rows2⟩, ⟨S1x512, rows1⟩]
    concatenates_S64x512_S32x512_S16x512_S8x512_S4x512_S2x512_S1x512_S127x512_d0

/-- The tails, the sets, and a row of zeros. -/
def sumRows : FVec Ideal S640x512 .f32 :=
  concatenate S640x512 0 [⟨S512x512, tailRows⟩, ⟨S127x512, setRows⟩, ⟨S1x512, (broadcastInDim S1x512 ![] bcast_S_S1x512 (constant (F := Ideal) S_ .f32 0x00000000#32))⟩]
    concatenates_S512x512_S127x512_S1x512_S640x512_d0

/-- The table that spreads the keys' columns. -/
def spread : FVec Ideal S64x2048 .f32 :=
  select (cmpi .eq (iotaInDim S64x2048 32 0) (Host.shrsi (iotaInDim S64x2048 32 1) (broadcastInDim S64x2048 ![] bcast_S_S64x2048 (constantI S_ 32 5#32))))
    (broadcastInDim S64x2048 ![] bcast_S_S64x2048 (constant (F := Ideal) S_ .f32 0x3F800000#32))
    (broadcastInDim S64x2048 ![] bcast_S_S64x2048 (constant (F := Ideal) S_ .f32 0x00000000#32))

/-- The table that repeats the values' columns. -/
def tile : FVec Ideal S64x2048 .f32 :=
  select (andi (cmpi .eq (Host.shrsi (iotaInDim S64x2048 32 0) (broadcastInDim S64x2048 ![] bcast_S_S64x2048 (constantI S_ 32 5#32)))
        (Host.shrsi (iotaInDim S64x2048 32 1) (broadcastInDim S64x2048 ![] bcast_S_S64x2048 (constantI S_ 32 10#32))))
      (cmpi .eq (andi (iotaInDim S64x2048 32 0) (broadcastInDim S64x2048 ![] bcast_S_S64x2048 (constantI S_ 32 31#32))) (andi (iotaInDim S64x2048 32 1) (broadcastInDim S64x2048 ![] bcast_S_S64x2048 (constantI S_ 32 31#32)))))
    (broadcastInDim S64x2048 ![] bcast_S_S64x2048 (constant (F := Ideal) S_ .f32 0x3F800000#32))
    (broadcastInDim S64x2048 ![] bcast_S_S64x2048 (constant (F := Ideal) S_ .f32 0x00000000#32))

/-- Zero where a position reads a set, a large negative number where it does not. -/
def maskRows : FVec Ideal S512x127 .f32 :=
  select (cmpi .sle
      (concatenate S512x127 1 [⟨S512x64, ends64⟩, ⟨S512x32, ends32⟩, ⟨S512x16, ends16⟩, ⟨S512x8, ends8⟩, ⟨S512x4, ends4⟩, ⟨S512x2, ends2⟩, ⟨S512x1, ends1⟩]
        concatenates_S512x64_S512x32_S512x16_S512x8_S512x4_S512x2_S512x1_S512x127_d1)
      (Host.shli (Host.shrsi (iotaInDim S512x127 32 0) (broadcastInDim S512x127 ![] bcast_S_S512x127 (constantI S_ 32 3#32))) (broadcastInDim S512x127 ![] bcast_S_S512x127 (constantI S_ 32 3#32))))
    (broadcastInDim S512x127 ![] bcast_S_S512x127 (constant (F := Ideal) S_ .f32 0x00000000#32))
    (broadcastInDim S512x127 ![] bcast_S_S512x127 (constant (F := Ideal) S_ .f32 0xF149F2CA#32))

end Cert.KernelIdeal.Host

end
-- ==== Proof.Entry.lean ====
module

public import Idealize.ShloMosaic.Lib.Claim
public import proofs.«01_k».proof.Proof.Gen.KernelIdeal.Frame
public import proofs.«01_k».proof.Proof.Tables

@[expose] public section

/-! # What the host puts in the buffers the kernel reads -/

set_option maxRecDepth 65536

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Three pieces one by one. -/
theorem cat3 {α : Type} {t s₀ s₁ s₂ : Shape} {axis : Fin t.rank} {A A' : s₀.Idx → α} {B B' : s₁.Idx → α} {D D' : s₂.Idx → α} (h)
    (hA : A = A') (hB : B = B') (hD : D = D') :
    concatenate t axis [⟨s₀, A⟩, ⟨s₁, B⟩, ⟨s₂, D⟩] h = concatenate t axis [⟨s₀, A'⟩, ⟨s₁, B'⟩, ⟨s₂, D'⟩] h := by
  subst hA hB hD; rfl

/-- Seven pieces one by one. -/
theorem cat7 {α : Type} {t s₀ s₁ s₂ s₃ s₄ s₅ s₆ : Shape} {axis : Fin t.rank}
    {p0 q0 : s₀.Idx → α}
    {p1 q1 : s₁.Idx → α}
    {p2 q2 : s₂.Idx → α}
    {p3 q3 : s₃.Idx → α}
    {p4 q4 : s₄.Idx → α}
    {p5 q5 : s₅.Idx → α}
    {p6 q6 : s₆.Idx → α}
    (h) (e0 : p0 = q0) (e1 : p1 = q1) (e2 : p2 = q2) (e3 : p3 = q3) (e4 : p4 = q4) (e5 : p5 = q5) (e6 : p6 = q6) :
    concatenate t axis [⟨s₀, p0⟩, ⟨s₁, p1⟩, ⟨s₂, p2⟩, ⟨s₃, p3⟩, ⟨s₄, p4⟩, ⟨s₅, p5⟩, ⟨s₆, p6⟩] h
      = concatenate t axis [⟨s₀, q0⟩, ⟨s₁, q1⟩, ⟨s₂, q2⟩, ⟨s₃, q3⟩, ⟨s₄, q4⟩, ⟨s₅, q5⟩, ⟨s₆, q6⟩] h := by
  subst e0 e1 e2 e3 e4 e5 e6; rfl

theorem spread_eq : V m c main_v93 = spread := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  rfl

theorem tile_eq : V m c main_v105 = tile := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  rfl

theorem sumRows_eq : V m c main_v107 = sumRows := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  unfold sumRows
  refine cat3 _ ?_ ?_ ?_
  · rfl
  · unfold setRows
    refine cat7 _ ?_ ?_ ?_ ?_ ?_ ?_ ?_
    all_goals rfl
  · rfl

theorem maskRows_eq : V m c main_v115 = maskRows := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  rfl

theorem features_eq : V m c main_v116
    = concatenate S1024x64 1 [⟨S1024x32, (m ((c : Thread nD τ).loc main_arg4) : FVec Ideal S1024x32 .f32)⟩,
        ⟨S1024x32, (m ((c : Thread nD τ).loc main_arg6) : FVec Ideal S1024x32 .f32)⟩]
        concatenates_S1024x32_S1024x32_S1024x64_d1 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results

theorem projections_eq : V m c main_v117
    = concatenate S512x1536 1 [⟨S512x512, (m ((c : Thread nD τ).loc main_arg1) : FVec Ideal S512x512 .f32)⟩,
        ⟨S512x512, (m ((c : Thread nD τ).loc main_arg2) : FVec Ideal S512x512 .f32)⟩,
        ⟨S512x512, (m ((c : Thread nD τ).loc main_arg3) : FVec Ideal S512x512 .f32)⟩]
        concatenates_S512x512_S512x512_S512x512_S512x1536_d1 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  rfl

theorem biases_eq : V m c main_v122
    = broadcastInDim S1x1024 ![1] bcast_S1024_S1x1024_1
        (shapeCast S1024 (broadcastInDim S16x64 ![0, 1] bcast_S1x64_S16x64_0_1
          (shapeCast S1x64 (concatenate S64 0
            [⟨S32, (m ((c : Thread nD τ).loc main_arg5) : FVec Ideal S32 .f32)⟩,
             ⟨S32, (m ((c : Thread nD τ).loc main_arg7) : FVec Ideal S32 .f32)⟩]
            concatenates_S32_S32_S64_d0) shapeCasts_S64_S1x64)) shapeCasts_S16x64_S1024) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  rfl

end Cert.KernelIdeal.Host

end
-- ==== Proof.Maths.lean ====
module

public import Idealize.ShloMosaic.PureOps.Ideal
public import Idealize.ShloMosaic.PureOps.Ideal.Laws

@[expose] public section

/-! # Facts about extended reals: finite sums, moving a matrix product past a sum, the softmax -/

noncomputable section

namespace Cert.Maths

open Idealize.ShloMosaic

/-- Neither infinity. -/
def Fin' (x : EReal) : Prop := x ≠ ⊤ ∧ x ≠ ⊥

theorem Fin'.exists_coe {x : EReal} (h : Fin' x) : ∃ r : ℝ, x = (r : EReal) :=
  ⟨x.toReal, (EReal.coe_toReal h.1 h.2).symm⟩

theorem fin_coe (r : ℝ) : Fin' (r : EReal) := ⟨EReal.coe_ne_top r, EReal.coe_ne_bot r⟩

theorem fin_zero : Fin' 0 := fin_coe 0

theorem fin_one : Fin' 1 := fin_coe 1

theorem fin_mul {x y : EReal} (hx : Fin' x) (hy : Fin' y) : Fin' (x * y) := by
  obtain ⟨a, rfl⟩ := hx.exists_coe
  obtain ⟨b, rfl⟩ := hy.exists_coe
  rw [← EReal.coe_mul]; exact fin_coe _

theorem fin_add {x y : EReal} (hx : Fin' x) (hy : Fin' y) : Fin' (x + y) := by
  obtain ⟨a, rfl⟩ := hx.exists_coe
  obtain ⟨b, rfl⟩ := hy.exists_coe
  rw [← EReal.coe_add]; exact fin_coe _

/-- A sum of real numbers, as an extended real. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum {ι : Type} (s : Finset ι) (f : ι → EReal) (h : ∀ i, Fin' (f i)) : Fin' (∑ i ∈ s, f i) := by
  choose r hr using fun i => (h i).exists_coe
  rw [funext hr, ← coe_sum]; exact fin_coe _

/-- The sum of the entries at which a condition holds, of a matrix product's rows, is the matrix product of the
    sum of the rows: what the kernel computes on the left, what the formula says on the right. -/
theorem sum_matmul {n k : ℕ} (P : Fin n → Prop) [DecidablePred P] (a : Fin n → Fin k → EReal) (w : Fin k → EReal)
    (ha : ∀ t f, Fin' (a t f)) (hw : ∀ f, Fin' (w f)) :
    ∑ t, (if P t then (1 : EReal) else 0) * ∑ f, a t f * w f
      = ∑ f, (∑ t, if P t then a t f else 0) * w f := by
  choose a' ha' using fun t f => (ha t f).exists_coe
  choose w' hw' using fun f => (hw f).exists_coe
  have e1 : ∀ t, (if P t then (1 : EReal) else 0) = (((if P t then 1 else 0 : ℝ)) : EReal) := by
    intro t; split <;> simp
  have e2 : ∀ t f, (if P t then ((a' t f : ℝ) : EReal) else 0) = (((if P t then a' t f else 0 : ℝ)) : EReal) := by
    intro t f; split <;> simp
  simp only [ha', hw', e1, e2, ← EReal.coe_mul, ← coe_sum]
  congr 1
  simp only [Finset.mul_sum, Finset.sum_mul]
  rw [Finset.sum_comm]
  refine Finset.sum_congr rfl fun f _ => Finset.sum_congr rfl fun t _ => ?_
  split <;> simp

/-- A factor that is a nonnegative real number may be moved into a sum of any extended reals. -/
theorem sum_mul_of_nonneg {ι : Type} (s : Finset ι) (f : ι → EReal) {c : EReal} (h0 : 0 ≤ c) (hc : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 hc, ih]

/-- The sum of the entries of one block of `L` consecutive rows, numbered `n`, out of `N`. -/
theorem sum_block {N L : ℕ} (n : ℕ) (hL : 0 < L) (h : (n + 1) * L ≤ N) (g : Fin N → EReal) :
    (∑ t : Fin N, if (t : ℕ) / L = n then g t else 0)
      = ∑ l : Fin L, g ⟨n * L + l, lt_of_lt_of_le (by rw [add_one_mul]; exact Nat.add_lt_add_left l.isLt _) h⟩ := by
  rw [← Finset.sum_filter]
  symm
  refine Finset.sum_bij (fun l _ => ⟨n * L + l, lt_of_lt_of_le (by rw [add_one_mul]; exact Nat.add_lt_add_left l.isLt _) h⟩) ?_ ?_ ?_ ?_
  · intro l _
    simp only [Finset.mem_filter, Finset.mem_univ, true_and]
    rw [mul_comm, Nat.mul_add_div hL, Nat.div_eq_of_lt l.isLt, add_zero]
  · intro a _ b _ hab
    have := Fin.mk.inj_iff.mp hab
    exact Fin.ext (by omega)
  · intro t ht
    simp only [Finset.mem_filter, Finset.mem_univ, true_and] at ht
    refine ⟨⟨(t : ℕ) % L, Nat.mod_lt _ hL⟩, Finset.mem_univ _, Fin.ext ?_⟩
    change n * L + (t : ℕ) % L = t
    rw [← ht, mul_comm]; exact Nat.div_add_mod _ _
  · intro l _; rfl

/-! ## The shifted exponential linear unit -/

/-- `elu z + 1` as the kernel writes it and as the formula does. -/
def phi (z : EReal) : EReal := if 0 < z then z + 1 else Ideal.exp (min z 0)

theorem fin_exp {x : EReal} (h : x ≠ ⊤) : Fin' (Ideal.exp x) := by
  induction x using EReal.rec with
  | bot => exact fin_zero
  | top => exact absurd rfl h
  | coe r => exact fin_coe _

theorem exp_nonneg (x : EReal) : 0 ≤ Ideal.exp x := by
  induction x using EReal.rec with
  | bot => exact le_refl _
  | top => exact le_top
  | coe r => exact EReal.coe_nonneg.mpr (Real.exp_pos r).le

theorem exp_pos_coe (r : ℝ) : 0 < Ideal.exp (r : EReal) := EReal.coe_pos.mpr (Real.exp_pos r)

theorem fin_phi {z : EReal} (h : Fin' z) : Fin' (phi z) := by
  unfold phi
  split
  · exact fin_add h fin_one
  · refine fin_exp fun h' => ?_
    have : min z 0 ≤ 0 := min_le_right _ _
    rw [h'] at this; exact absurd this (by simp)

/-- The formula's spelling. -/
theorem elu_eq_phi (z : EReal) :
    (if 0 < z then z else Ideal.exp (if 0 < z then 0 else z) - 1) + 1 = phi z := by
  unfold phi
  by_cases h : 0 < z
  · simp [h]
  · simp only [h, if_false]
    rw [min_eq_left (not_lt.mp h)]
    have hz : Fin' (Ideal.exp z) := fin_exp fun h' => by rw [h'] at h; exact h EReal.zero_lt_top
    obtain ⟨r, hr⟩ := hz.exists_coe
    rw [hr, ← EReal.coe_one, ← EReal.coe_sub, ← EReal.coe_add]; simp

/-! ## The scale -/

/-- A factor in every entry of a dot product of real numbers is the product over the root. -/
theorem scale_dot {k : ℕ} (q w : Fin k → EReal) (hq : ∀ d, Fin' (q d)) (hw : ∀ d, Fin' (w d)) (r : ℝ) (hr : r ≠ 0) :
    ∑ d, (q d * ((r⁻¹ : ℝ) : EReal)) * w d = Ideal.div (∑ d, q d * w d) (r : EReal) := by
  choose q' hq' using fun d => (hq d).exists_coe
  choose w' hw' using fun d => (hw d).exists_coe
  have h0 : (r : EReal) ≠ 0 := by exact_mod_cast hr
  simp only [hq', hw', ← EReal.coe_mul, ← coe_sum, Ideal.div, h0, if_false, ← EReal.coe_inv]
  congr 1
  rw [Finset.sum_mul]
  exact Finset.sum_congr rfl fun d _ => by ring

/-! ## The softmax over the sets and the tail -/

/-- The greatest of a tail's logit and of finitely many logits. -/
def top {n : ℕ} (x : Fin n → EReal) (tl : EReal) : EReal := max (Finset.univ.fold max ⊥ x) tl

theorem fold_max_ne_top {ι : Type} (s : Finset ι) (x : ι → EReal) (h : ∀ i, x i ≠ ⊤) : s.fold max ⊥ x ≠ ⊤ := by
  classical
  induction s using Finset.induction_on with
  | empty => simp
  | insert a s ha ih =>
    rw [Finset.fold_insert ha]
    rcases max_choice (x a) (s.fold max ⊥ x) with h' | h' <;> rw [h']
    · exact h a
    · exact ih

theorem fin_top {n : ℕ} (x : Fin n → EReal) (tl : EReal) (hx : ∀ i, x i ≠ ⊤) (ht : Fin' tl) : Fin' (top x tl) := by
  constructor
  · unfold top
    rcases max_choice (Finset.univ.fold max ⊥ x) tl with h' | h' <;> rw [h']
    · exact fold_max_ne_top _ _ hx
    · exact ht.1
  · intro h
    have : tl ≤ top x tl := le_max_right _ _
    rw [h] at this
    exact ht.2 (le_bot_iff.mp this)

theorem sub_ne_top {x y : EReal} (hx : x ≠ ⊤) (hy : Fin' y) : x - y ≠ ⊤ := by
  obtain ⟨b, rfl⟩ := hy.exists_coe
  induction x using EReal.rec with
  | bot => simp
  | top => exact absurd rfl hx
  | coe r => rw [← EReal.coe_sub]; exact EReal.coe_ne_top _

/-- The weights' sum. -/
def total {n : ℕ} (x : Fin n → EReal) (tl : EReal) : EReal :=
  (∑ s, Ideal.exp (x s - top x tl)) + Ideal.exp (tl - top x tl)

/-- The average as the kernel takes it: the weighted sum, then one division. -/
def average {n : ℕ} (x : Fin n → EReal) (tl : EReal) (v : Fin n → EReal) (vt : EReal) : EReal :=
  Ideal.div ((∑ s, Ideal.exp (x s - top x tl) * v s) + Ideal.exp (tl - top x tl) * vt) (total x tl)

/-- The total is a positive real number. -/
theorem total_spec {n : ℕ} (x : Fin n → EReal) (tl : EReal) (hx : ∀ i, x i ≠ ⊤) (ht : Fin' tl) :
    ∃ r : ℝ, 0 < r ∧ total x tl = (r : EReal) := by
  have hm := fin_top x tl hx ht
  choose e he using fun s => (fin_exp (sub_ne_top (hx s) hm)).exists_coe
  have he0 : ∀ s, 0 ≤ e s := fun s => by
    have := exp_nonneg (x s - top x tl)
    rw [he s] at this; exact EReal.coe_nonneg.mp this
  obtain ⟨m, hm'⟩ := hm.exists_coe
  obtain ⟨t, rfl⟩ := ht.exists_coe
  refine ⟨(∑ s, e s) + Real.exp (t - m), add_pos_of_nonneg_of_pos (Finset.sum_nonneg fun s _ => he0 s) (Real.exp_pos _), ?_⟩
  unfold total
  simp only [he]
  rw [hm', ← EReal.coe_sub, EReal.coe_add, coe_sum]
  rfl

/-- The average with each weight divided first, as the formula takes it. -/
theorem average_eq {n : ℕ} (x : Fin n → EReal) (tl : EReal) (v : Fin n → EReal) (vt : EReal)
    (hx : ∀ i, x i ≠ ⊤) (ht : Fin' tl) :
    average x tl v vt
      = (∑ s, v s * Ideal.div (Ideal.exp (x s - top x tl)) (total x tl))
        + Ideal.div (Ideal.exp (tl - top x tl)) (total x tl) * vt := by
  obtain ⟨r, hr, htot⟩ := total_spec x tl hx ht
  have h0 : (r : EReal) ≠ 0 := by exact_mod_cast hr.ne'
  have hinv : (0 : EReal) ≤ ((r⁻¹ : ℝ) : EReal) := EReal.coe_nonneg.mpr (inv_nonneg.mpr hr.le)
  have htop : ((r⁻¹ : ℝ) : EReal) ≠ ⊤ := EReal.coe_ne_top _
  unfold average
  simp only [htot, Ideal.div, h0, if_false, ← EReal.coe_inv]
  rw [EReal.right_distrib_of_nonneg_of_ne_top hinv htop, sum_mul_of_nonneg _ _ hinv htop]
  congr 1
  · refine Finset.sum_congr rfl fun s _ => ?_
    rw [mul_comm (Ideal.exp _) (v s), mul_assoc]
  · rw [mul_assoc, mul_assoc, mul_comm vt]

/-- The greatest of `n + 1` numbers, the last apart. -/
theorem fold_max_snoc {n : ℕ} (z : Fin (n + 1) → EReal) :
    Finset.univ.fold max ⊥ z = max (Finset.univ.fold max ⊥ fun s : Fin n => z s.castSucc) (z (Fin.last n)) := by
  apply le_antisymm
  · rw [Finset.fold_max_le]
    refine ⟨bot_le, fun i _ => ?_⟩
    refine Fin.lastCases ?_ (fun s => ?_) i
    · exact le_max_right _ _
    · refine le_max_of_le_left ?_
      rw [Finset.le_fold_max]
      exact Or.inr ⟨s, Finset.mem_univ _, le_refl _⟩
  · refine max_le ?_ ?_
    · rw [Finset.fold_max_le]
      refine ⟨bot_le, fun s _ => ?_⟩
      rw [Finset.le_fold_max]
      exact Or.inr ⟨s.castSucc, Finset.mem_univ _, le_refl _⟩
    · rw [Finset.le_fold_max]
      exact Or.inr ⟨Fin.last n, Finset.mem_univ _, le_refl _⟩

end Cert.Maths

end
-- ==== Proof.Middle.lean ====
module

public import proofs.«01_k».proof.Proof.Maths

@[expose] public section

/-! # The formula both programs compute, for one batch entry

Every position `r` reads the sets of positions of a binary hierarchy that end before its block of eight begins, and
the tail: the positions of its own block up to itself. A set's key is a linear map of the sum, over the set, of the
outer products of keys and values. -/

noncomputable section

namespace Cert.Maths

open Idealize.ShloMosaic

/-- One batch entry and the weights. -/
structure Inputs where
  x : Fin 512 → Fin 512 → EReal
  wq : Fin 512 → Fin 512 → EReal
  wk : Fin 512 → Fin 512 → EReal
  wv : Fin 512 → Fin 512 → EReal
  wkm : Fin 1024 → Fin 32 → EReal
  bkm : Fin 32 → EReal
  wvm : Fin 1024 → Fin 32 → EReal
  bvm : Fin 32 → EReal

/-- The entries that have to be real numbers are. -/
structure Inputs.Finite (I : Inputs) : Prop where
  x : ∀ t f, Fin' (I.x t f)
  wq : ∀ t f, Fin' (I.wq t f)
  wk : ∀ t f, Fin' (I.wk t f)
  wv : ∀ t f, Fin' (I.wv t f)
  wkm : ∀ t f, Fin' (I.wkm t f)
  bkm : ∀ t, Fin' (I.bkm t)
  wvm : ∀ t f, Fin' (I.wvm t f)

/-- The length of set `s`: 64 sets of 8 positions, 32 of 16, and so on to one of 512. -/
def len (s : ℕ) : ℕ :=
  if s < 64 then 8 else if s < 96 then 16 else if s < 112 then 32 else if s < 120 then 64
  else if s < 124 then 128 else if s < 126 then 256 else 512

/-- Its number among the sets of its length. -/
def num (s : ℕ) : ℕ :=
  if s < 64 then s else if s < 96 then s - 64 else if s < 112 then s - 96 else if s < 120 then s - 112
  else if s < 124 then s - 120 else if s < 126 then s - 124 else s - 126

/-- The length and the number of a set of each level. -/
theorem len_num (s : ℕ) (L N : ℕ)
    (h : s < 64 ∧ L = 8 ∧ N = s ∨ 64 ≤ s ∧ s < 96 ∧ L = 16 ∧ N = s - 64 ∨ 96 ≤ s ∧ s < 112 ∧ L = 32 ∧ N = s - 96
      ∨ 112 ≤ s ∧ s < 120 ∧ L = 64 ∧ N = s - 112 ∨ 120 ≤ s ∧ s < 124 ∧ L = 128 ∧ N = s - 120
      ∨ 124 ≤ s ∧ s < 126 ∧ L = 256 ∧ N = s - 124 ∨ 126 ≤ s ∧ L = 512 ∧ N = s - 126) :
    len s = L ∧ num s = N := by
  unfold len num
  split_ifs <;> omega

/-- Position `t` is in set `s`. -/
abbrev inSet (s t : ℕ) : Prop := t / len s = num s

/-- Position `t` is in the tail of position `r`. -/
abbrev inTail (r t : ℕ) : Prop := t / 8 = r / 8 ∧ t ≤ r

/-- Set `s` ends before the block of position `r` begins. -/
abbrev visible (r s : ℕ) : Prop := (num s + 1) * len s ≤ r / 8 * 8

/-- Column `d` of head `h`. -/
def col (h : Fin 16) (d : Fin 32) : Fin 512 := ⟨32 * h + d, by omega⟩

namespace Inputs

variable (I : Inputs)

def q (t c : Fin 512) : EReal := phi (∑ f, I.x t f * I.wq f c)
def k (t c : Fin 512) : EReal := phi (∑ f, I.x t f * I.wk f c)
def v (t c : Fin 512) : EReal := ∑ f, I.x t f * I.wv f c

/-- The outer product of a position's key and value in head `h`, flattened. -/
def feat (h : Fin 16) (t : Fin 512) (f : Fin 1024) : EReal :=
  I.k t (col h ⟨(f : ℕ) / 32, by omega⟩) * I.v t (col h ⟨(f : ℕ) % 32, by omega⟩)

/-- The linear map `w`, `b` of the features' sum over the positions that satisfy `P`. -/
def summary (w : Fin 1024 → Fin 32 → EReal) (b : Fin 32 → EReal) (h : Fin 16) (P : ℕ → Prop) [DecidablePred P]
    (d : Fin 32) : EReal :=
  (∑ f, (∑ t : Fin 512, if P t then I.feat h t f else 0) * w f d) + b d

/-- The logit of position `r` over set `s`, -/
def logit (h : Fin 16) (r : Fin 512) (s : Fin 127) : EReal :=
  if visible r s then
    Ideal.div (∑ d, I.q r (col h d) * I.summary I.wkm I.bkm h (inSet s) d) ((Real.sqrt 32 : ℝ) : EReal)
  else ⊥

/-- and over its tail. -/
def tlogit (h : Fin 16) (r : Fin 512) : EReal :=
  Ideal.div (∑ d, I.q r (col h d) * I.summary I.wkm I.bkm h (inTail r) d) ((Real.sqrt 32 : ℝ) : EReal)

/-- What head `h` gives position `r` in coordinate `e`. -/
def out (h : Fin 16) (r : Fin 512) (e : Fin 32) : EReal :=
  average (I.logit h r) (I.tlogit h r) (fun s => I.summary I.wvm I.bvm h (inSet s) e)
    (I.summary I.wvm I.bvm h (inTail r) e)

/-! ## What is a real number -/

theorem fin_div_sqrt {z : EReal} (hz : Fin' z) : Fin' (Ideal.div z ((Real.sqrt 32 : ℝ) : EReal)) := by
  obtain ⟨r, rfl⟩ := hz.exists_coe
  rw [Ideal.div_coe (by positivity)]
  exact fin_coe _

variable {I} (H : I.Finite)
include H

theorem fin_q (t c : Fin 512) : Fin' (I.q t c) := fin_phi (fin_sum _ _ fun f => fin_mul (H.x t f) (H.wq f c))
theorem fin_k (t c : Fin 512) : Fin' (I.k t c) := fin_phi (fin_sum _ _ fun f => fin_mul (H.x t f) (H.wk f c))
theorem fin_v (t c : Fin 512) : Fin' (I.v t c) := fin_sum _ _ fun f => fin_mul (H.x t f) (H.wv f c)
theorem fin_feat (h : Fin 16) (t : Fin 512) (f : Fin 1024) : Fin' (I.feat h t f) := fin_mul (fin_k H _ _) (fin_v H _ _)

theorem fin_key (h : Fin 16) (P : ℕ → Prop) [DecidablePred P] (d : Fin 32) :
    Fin' (I.summary I.wkm I.bkm h P d) := by
  refine fin_add (fin_sum _ _ fun f => fin_mul (fin_sum _ _ fun t => ?_) (H.wkm _ _)) (H.bkm _)
  split
  · exact fin_feat H _ _ _
  · exact fin_zero

theorem fin_tlogit (h : Fin 16) (r : Fin 512) : Fin' (I.tlogit h r) :=
  fin_div_sqrt (fin_sum _ _ fun d => fin_mul (fin_q H _ _) (fin_key H _ _ _))

theorem logit_ne_top (h : Fin 16) (r : Fin 512) (s : Fin 127) : I.logit h r s ≠ ⊤ := by
  unfold logit
  split
  · exact (fin_div_sqrt (fin_sum _ _ fun d => fin_mul (fin_q H _ _) (fin_key H _ _ _))).1
  · simp

end Inputs

end Cert.Maths

end
-- ==== Proof.Words.lean ====
module

public import proofs.«01_k».proof.Proof.Middle
public import Idealize.ShloMosaic.Lib.Pointwise
public import Idealize.ShloMosaic.Lib.WordCmp

@[expose] public section

/-! # Shifts, comparisons and remainders of small numbers held in words -/

set_option maxRecDepth 65536

namespace Cert.Words

open Idealize.ShloMosaic Cert.Maths

/-- Where set `s` ends. -/
def endWord (s : ℕ) : BitVec 32 := BitVec.ofNat 32 ((num s + 1) * len s)

theorem end_of (s L N : ℕ) (h : len s = L ∧ num s = N) : BitVec.ofNat 32 ((N + 1) * L) = endWord s := by
  unfold endWord; rw [h.1, h.2]

theorem shr_all : ∀ (k : Fin 11) (l : Fin 2048),
    IntOp.shrsi .host (BitVec.ofNat 32 l) (BitVec.ofNat 32 k) = BitVec.ofNat 32 (l / 2 ^ (k : ℕ)) := by
  decide +kernel

theorem shl_all : ∀ (k : Fin 10) (l : Fin 65),
    IntOp.shli .host (BitVec.ofNat 32 l) (BitVec.ofNat 32 k) = BitVec.ofNat 32 (l * 2 ^ (k : ℕ)) := by
  decide +kernel

theorem and_all : ∀ l : Fin 2048, IntOp.andi (BitVec.ofNat 32 l) 31#32 = BitVec.ofNat 32 (l % 32) := by
  decide +kernel

/-- A right shift divides by a power of two. -/
theorem shr (l k : ℕ) (hl : l < 2048) (hk : k < 11) :
    IntOp.shrsi .host (BitVec.ofNat 32 l) (BitVec.ofNat 32 k) = BitVec.ofNat 32 (l / 2 ^ k) := shr_all ⟨k, hk⟩ ⟨l, hl⟩

/-- A left shift multiplies by it. -/
theorem shl (l k : ℕ) (hl : l < 65) (hk : k < 10) :
    IntOp.shli .host (BitVec.ofNat 32 l) (BitVec.ofNat 32 k) = BitVec.ofNat 32 (l * 2 ^ k) := shl_all ⟨k, hk⟩ ⟨l, hl⟩

/-- The last five bits are the remainder by 32. -/
theorem and31 (l : ℕ) (hl : l < 2048) : IntOp.andi (BitVec.ofNat 32 l) 31#32 = BitVec.ofNat 32 (l % 32) :=
  and_all ⟨l, hl⟩

theorem add1 (l : ℕ) : IntOp.addi (BitVec.ofNat 32 l) 1#32 = BitVec.ofNat 32 (l + 1) := by
  simp [IntOp.addi, BitVec.ofNat_add]

theorem mul (a b : ℕ) : IntOp.muli (BitVec.ofNat 32 a) (BitVec.ofNat 32 b) = BitVec.ofNat 32 (a * b) := by
  simp [IntOp.muli, BitVec.ofNat_mul]

theorem eq_iff (a b : ℕ) (ha : a < 2 ^ 31) (hb : b < 2 ^ 31) :
    IntOp.cmpi .eq (BitVec.ofNat 32 a) (BitVec.ofNat 32 b) = 1#1 ↔ a = b := by
  word_cmp

theorem sle_iff (a b : ℕ) (ha : a < 2 ^ 31) (hb : b < 2 ^ 31) :
    IntOp.cmpi .sle (BitVec.ofNat 32 a) (BitVec.ofNat 32 b) = 1#1 ↔ a ≤ b := by
  word_cmp

theorem and_iff : ∀ x y : BitVec 1, IntOp.andi x y = 1#1 ↔ x = 1#1 ∧ y = 1#1 := by
  decide

theorem select_of_iff {α : Type} {c : BitVec 1} {P : Prop} [Decidable P] (h : c = 1#1 ↔ P) (x y : α) :
    Scalar.select c x y = if P then x else y := by
  unfold Scalar.select
  by_cases hp : P
  · rw [if_pos (show c = 1 from h.mpr hp), if_pos hp]
  · rw [if_neg (show ¬ c = 1 from fun h' => hp (h.mp h')), if_neg hp]

end Cert.Words
-- ==== Proof.TablesAt.lean ====
module

public import Idealize.ShloMosaic.Lib.Claim
public import proofs.«01_k».proof.Proof.Tables
public import proofs.«01_k».proof.Proof.Middle
public import proofs.«01_k».proof.Proof.Words

@[expose] public section

/-! # The tables at an index -/

set_option maxRecDepth 16384

noncomputable section

namespace Cert.KernelIdeal.Host

open Idealize.ShloMosaic
open Cert.KernelIdeal Cert.KernelIdeal.Gen Cert.Maths
open Cert.Words (endWord end_of)

theorem tailRows_at (r t : Fin 512) : tailRows (ix2 r t) = if inTail r t then 1 else 0 := by
  pointwise [tailRows]
  refine (Words.select_of_iff (P := inTail r t) ?_ _ _)
  rw [Words.and_iff, Words.shr _ _ (by omega) (by omega), Words.shr _ _ (by omega) (by omega),
    Words.eq_iff _ _ (by omega) (by omega), Words.sle_iff _ _ (by omega) (by omega)]
  exact and_congr_left' eq_comm

theorem row_of (s t L N : ℕ) (h : len s = L ∧ num s = N) :
    (if t / L = N then (1 : EReal) else 0) = if inSet s t then 1 else 0 := by
  unfold inSet; rw [h.1, h.2]

theorem rows64_at (s : Fin 127) (h : 0 ≤ (s : ℕ) ∧ (s : ℕ) < 64) (i : Fin 64) (hi : (i : ℕ) = s - 0) (t : Fin 512) :
    rows64 (ix2 i t) = if inSet s t then 1 else 0 := by
  refine Eq.trans ?_ (row_of s t 8 i (len_num _ _ _ (by omega)))
  pointwise [rows64]
  refine (Words.select_of_iff (P := (t : ℕ) / 8 = i) ?_ _ _)
  rw [Words.shr _ _ (by omega) (by omega), Words.eq_iff _ _ (by omega) (by omega)]
  norm_num

theorem ends64_at (s : Fin 127) (h : 0 ≤ (s : ℕ) ∧ (s : ℕ) < 64) (i : Fin 64) (hi : (i : ℕ) = s - 0) (r : Fin 512) :
    ends64 (ix2 r i) = endWord s := by
  refine Eq.trans ?_ (end_of s 8 i (len_num _ _ _ (by omega)))
  pointwise [ends64]
  rw [Words.add1, Words.shl _ _ (by omega) (by omega)]
  norm_num

theorem rows32_at (s : Fin 127) (h : 64 ≤ (s : ℕ) ∧ (s : ℕ) < 96) (i : Fin 32) (hi : (i : ℕ) = s - 64) (t : Fin 512) :
    rows32 (ix2 i t) = if inSet s t then 1 else 0 := by
  refine Eq.trans ?_ (row_of s t 16 i (len_num _ _ _ (by omega)))
  pointwise [rows32]
  refine (Words.select_of_iff (P := (t : ℕ) / 16 = i) ?_ _ _)
  rw [Words.shr _ _ (by omega) (by omega), Words.eq_iff _ _ (by omega) (by omega)]
  norm_num

theorem ends32_at (s : Fin 127) (h : 64 ≤ (s : ℕ) ∧ (s : ℕ) < 96) (i : Fin 32) (hi : (i : ℕ) = s - 64) (r : Fin 512) :
    ends32 (ix2 r i) = endWord s := by
  refine Eq.trans ?_ (end_of s 16 i (len_num _ _ _ (by omega)))
  pointwise [ends32]
  rw [Words.add1, Words.shl _ _ (by omega) (by omega)]
  norm_num

theorem rows16_at (s : Fin 127) (h : 96 ≤ (s : ℕ) ∧ (s : ℕ) < 112) (i : Fin 16) (hi : (i : ℕ) = s - 96) (t : Fin 512) :
    rows16 (ix2 i t) = if inSet s t then 1 else 0 := by
  refine Eq.trans ?_ (row_of s t 32 i (len_num _ _ _ (by omega)))
  pointwise [rows16]
  refine (Words.select_of_iff (P := (t : ℕ) / 32 = i) ?_ _ _)
  rw [Words.shr _ _ (by omega) (by omega), Words.eq_iff _ _ (by omega) (by omega)]
  norm_num

theorem ends16_at (s : Fin 127) (h : 96 ≤ (s : ℕ) ∧ (s : ℕ) < 112) (i : Fin 16) (hi : (i : ℕ) = s - 96) (r : Fin 512) :
    ends16 (ix2 r i) = endWord s := by
  refine Eq.trans ?_ (end_of s 32 i (len_num _ _ _ (by omega)))
  pointwise [ends16]
  rw [Words.add1, Words.shl _ _ (by omega) (by omega)]
  norm_num

theorem rows8_at (s : Fin 127) (h : 112 ≤ (s : ℕ) ∧ (s : ℕ) < 120) (i : Fin 8) (hi : (i : ℕ) = s - 112) (t : Fin 512) :
    rows8 (ix2 i t) = if inSet s t then 1 else 0 := by
  refine Eq.trans ?_ (row_of s t 64 i (len_num _ _ _ (by omega)))
  pointwise [rows8]
  refine (Words.select_of_iff (P := (t : ℕ) / 64 = i) ?_ _ _)
  rw [Words.shr _ _ (by omega) (by omega), Words.eq_iff _ _ (by omega) (by omega)]
  norm_num

theorem ends8_at (s : Fin 127) (h : 112 ≤ (s : ℕ) ∧ (s : ℕ) < 120) (i : Fin 8) (hi : (i : ℕ) = s - 112) (r : Fin 512) :
    ends8 (ix2 r i) = endWord s := by
  refine Eq.trans ?_ (end_of s 64 i (len_num _ _ _ (by omega)))
  pointwise [ends8]
  rw [Words.add1, Words.shl _ _ (by omega) (by omega)]
  norm_num

theorem rows4_at (s : Fin 127) (h : 120 ≤ (s : ℕ) ∧ (s : ℕ) < 124) (i : Fin 4) (hi : (i : ℕ) = s - 120) (t : Fin 512) :
    rows4 (ix2 i t) = if inSet s t then 1 else 0 := by
  refine Eq.trans ?_ (row_of s t 128 i (len_num _ _ _ (by omega)))
  pointwise [rows4]
  refine (Words.select_of_iff (P := (t : ℕ) / 128 = i) ?_ _ _)
  rw [Words.shr _ _ (by omega) (by omega), Words.eq_iff _ _ (by omega) (by omega)]
  norm_num

theorem ends4_at (s : Fin 127) (h : 120 ≤ (s : ℕ) ∧ (s : ℕ) < 124) (i : Fin 4) (hi : (i : ℕ) = s - 120) (r : Fin 512) :
    ends4 (ix2 r i) = endWord s := by
  refine Eq.trans ?_ (end_of s 128 i (len_num _ _ _ (by omega)))
  pointwise [ends4]
  rw [Words.add1, Words.shl _ _ (by omega) (by omega)]
  norm_num

theorem rows2_at (s : Fin 127) (h : 124 ≤ (s : ℕ) ∧ (s : ℕ) < 126) (i : Fin 2) (hi : (i : ℕ) = s - 124) (t : Fin 512) :
    rows2 (ix2 i t) = if inSet s t then 1 else 0 := by
  refine Eq.trans ?_ (row_of s t 256 i (len_num _ _ _ (by omega)))
  pointwise [rows2]
  refine (Words.select_of_iff (P := (t : ℕ) / 256 = i) ?_ _ _)
  rw [Words.shr _ _ (by omega) (by omega), Words.eq_iff _ _ (by omega) (by omega)]
  norm_num

theorem ends2_at (s : Fin 127) (h : 124 ≤ (s : ℕ) ∧ (s : ℕ) < 126) (i : Fin 2) (hi : (i : ℕ) = s - 124) (r : Fin 512) :
    ends2 (ix2 r i) = endWord s := by
  refine Eq.trans ?_ (end_of s 256 i (len_num _ _ _ (by omega)))
  pointwise [ends2]
  rw [Words.add1, Words.shl _ _ (by omega) (by omega)]
  norm_num

theorem rows1_at (s : Fin 127) (h : 126 ≤ (s : ℕ) ∧ (s : ℕ) < 127) (i : Fin 1) (hi : (i : ℕ) = s - 126) (t : Fin 512) :
    rows1 (ix2 i t) = if inSet s t then 1 else 0 := by
  refine Eq.trans ?_ (row_of s t 512 i (len_num _ _ _ (by omega)))
  pointwise [rows1]
  refine (Words.select_of_iff (P := (t : ℕ) / 512 = 0) ?_ _ _)
  rw [Words.shr _ _ (by omega) (by omega), Words.eq_iff _ _ (by omega) (by omega)]
  norm_num

theorem ends1_at (s : Fin 127) (h : 126 ≤ (s : ℕ) ∧ (s : ℕ) < 127) (i : Fin 1) (hi : (i : ℕ) = s - 126) (r : Fin 512) :
    ends1 (ix2 r i) = endWord s := by
  refine Eq.trans ?_ (end_of s 512 i (len_num _ _ _ (by omega)))
  pointwise [ends1]
  rw [Words.add1, Words.shl _ _ (by omega) (by omega)]
  norm_num

theorem setRows_at (s : Fin 127) (t : Fin 512) : setRows (ix2 s t) = if inSet s t then 1 else 0 := by
  pointwise [setRows]
  by_cases h64 : (s : ℕ) < 64
  · exact (dif_pos h64).trans (rows64_at s (by omega) _ (by dsimp only; try omega) t)
  refine (dif_neg h64).trans ?_
  by_cases h32 : (s : ℕ) - 64 < 32
  · exact (dif_pos h32).trans (rows32_at s (by omega) _ (by dsimp only; try omega) t)
  refine (dif_neg h32).trans ?_
  by_cases h16 : (s : ℕ) - 64 - 32 < 16
  · exact (dif_pos h16).trans (rows16_at s (by omega) _ (by dsimp only; try omega) t)
  refine (dif_neg h16).trans ?_
  by_cases h8 : (s : ℕ) - 64 - 32 - 16 < 8
  · exact (dif_pos h8).trans (rows8_at s (by omega) _ (by dsimp only; try omega) t)
  refine (dif_neg h8).trans ?_
  by_cases h4 : (s : ℕ) - 64 - 32 - 16 - 8 < 4
  · exact (dif_pos h4).trans (rows4_at s (by omega) _ (by dsimp only; try omega) t)
  refine (dif_neg h4).trans ?_
  by_cases h2 : (s : ℕ) - 64 - 32 - 16 - 8 - 4 < 2
  · exact (dif_pos h2).trans (rows2_at s (by omega) _ (by dsimp only; try omega) t)
  refine (dif_neg h2).trans ?_
  exact rows1_at s (by omega) _ (by dsimp only; try omega) t

theorem neg_lt : Ideal.ofBits .f32 0xF149F2CA#32 < 0 := by
  simp [Ideal.ofBits, Ideal.ieee, -EReal.coe_mul, -EReal.coe_neg]

theorem mask_word (r : Fin 512) (s : Fin 127) (w : BitVec 32) (h : w = endWord s) :
    Scalar.select (IntOp.cmpi CmpIPredicate.sle w
      (IntOp.shli ArithUnit.host (IntOp.shrsi ArithUnit.host (BitVec.ofNat 32 ↑r) 3#32) 3#32))
      0 (Ideal.ofBits FTy.f32 4048155338#32) < 0 ↔ ¬ visible r s := by
  have hb : (num s + 1) * len s ≤ 512 := by
    unfold len num; split_ifs <;> omega
  subst h
  rw [Words.select_of_iff (P := visible r s)]
  · split
    · simp_all
    · simp_all [neg_lt]
  · rw [Words.shr _ _ (by omega) (by omega), Words.shl _ _ (by omega) (by omega), endWord, Words.sle_iff _ _ (by omega) (by omega)]
    exact Iff.rfl

theorem maskRows_at (r : Fin 512) (s : Fin 127) : maskRows (ix2 r s) < 0 ↔ ¬ visible r s := by
  pointwise [maskRows]
  apply mask_word
  by_cases h64 : (s : ℕ) < 64
  · exact (dif_pos h64).trans (ends64_at s (by omega) _ (by dsimp only; try omega) r)
  refine (dif_neg h64).trans ?_
  by_cases h32 : (s : ℕ) - 64 < 32
  · exact (dif_pos h32).trans (ends32_at s (by omega) _ (by dsimp only; try omega) r)
  refine (dif_neg h32).trans ?_
  by_cases h16 : (s : ℕ) - 64 - 32 < 16
  · exact (dif_pos h16).trans (ends16_at s (by omega) _ (by dsimp only; try omega) r)
  refine (dif_neg h16).trans ?_
  by_cases h8 : (s : ℕ) - 64 - 32 - 16 < 8
  · exact (dif_pos h8).trans (ends8_at s (by omega) _ (by dsimp only; try omega) r)
  refine (dif_neg h8).trans ?_
  by_cases h4 : (s : ℕ) - 64 - 32 - 16 - 8 < 4
  · exact (dif_pos h4).trans (ends4_at s (by omega) _ (by dsimp only; try omega) r)
  refine (dif_neg h4).trans ?_
  by_cases h2 : (s : ℕ) - 64 - 32 - 16 - 8 - 4 < 2
  · exact (dif_pos h2).trans (ends2_at s (by omega) _ (by dsimp only; try omega) r)
  refine (dif_neg h2).trans ?_
  exact ends1_at s (by omega) _ (by dsimp only; try omega) r

/-- The rows of the joined table. -/
theorem sumRows_tail (r t : Fin 512) : sumRows (ix2 ⟨r, by omega⟩ t) = if inTail r t then 1 else 0 := by
  pointwise [sumRows]
  exact tailRows_at r t

theorem sumRows_set (s : Fin 127) (t : Fin 512) : sumRows (ix2 ⟨512 + s, by omega⟩ t) = if inSet s t then 1 else 0 := by
  rw [← setRows_at]
  pointwise [sumRows]

theorem spread_at (i : Fin 64) (j : Fin 2) (f : Fin 1024) :
    spread (ix2 i ⟨1024 * j + f, by omega⟩) = if (i : ℕ) = 32 * j + f / 32 then 1 else 0 := by
  pointwise [spread]
  refine (Words.select_of_iff (P := (i : ℕ) = 32 * j + f / 32) ?_ _ _)
  rw [Words.shr _ _ (by omega) (by omega), Words.eq_iff _ _ (by omega) (by omega)]
  omega

theorem tile_at (i : Fin 64) (j : Fin 2) (f : Fin 1024) :
    tile (ix2 i ⟨1024 * j + f, by omega⟩) = if (i : ℕ) = 32 * j + f % 32 then 1 else 0 := by
  pointwise [tile]
  refine (Words.select_of_iff (P := (i : ℕ) = 32 * j + f % 32) ?_ _ _)
  rw [Words.and_iff, Words.shr _ _ (by omega) (by omega), Words.shr _ _ (by omega) (by omega),
    Words.and31 _ (by omega), Words.and31 _ (by omega),
    Words.eq_iff _ _ (by omega) (by omega), Words.eq_iff _ _ (by omega) (by omega)]
  omega

end Cert.KernelIdeal.Host

end
-- ==== Proof.Heads.lean ====
module

public import Idealize.ShloMosaic.Lib.Pointwise
public import proofs.«01_k».proof.Proof.Gen.KernelIdeal.Frame
public import proofs.«01_k».proof.Proof.Maths

@[expose] public section

/-! # One head of the kernel's body, for any head number

The body repeats the same operations for eight groups of two heads, at other offsets. Here they are written once, with
the offsets as parameters. -/

set_option maxRecDepth 16384

noncomputable section

namespace Cert.KernelIdeal.Heads

open Idealize.ShloMosaic Idealize.ShloMosaic.TcCoe Idealize.SL.Sem
open Cert.KernelIdeal Cert.KernelIdeal.Gen

/-- The products of the keys' and the values' coordinates, for two heads, whose columns begin at `o`. -/
def outer (k v : FVec Ideal S512x512 .f32) (sp ti : FVec Ideal S64x2048 .f32) (o : ℕ)
    (ho : S512x512.Slices ![0, o] S512x64) : FVec Ideal S512x2048 .f32 :=
  mulf
    (matmul dot_S512x64_S64x2048_S512x2048_1_0_0_1_n_n none (extractStridedSlice S512x64 ![0, o] k ho)
      (shapeCast S64x2048 sp shapeCasts_S64x2048_S64x2048) (constant S512x2048 .f32 0x00000000#32))
    (matmul dot_S512x64_S64x2048_S512x2048_1_0_0_1_n_n none (extractStridedSlice S512x64 ![0, o] v ho)
      (shapeCast S64x2048 ti shapeCasts_S64x2048_S64x2048) (constant S512x2048 .f32 0x00000000#32))

/-- Their matrix product with the features' weights, head by head, then the sums over rows that `cm` asks for. -/
def sums (u : FVec Ideal S512x2048 .f32) (w : FVec Ideal S1024x64 .f32) (cm : FVec Ideal S640x512 .f32) :
    FVec Ideal S640x128 .f32 :=
  matmul dot_S640x512_S512x128_S640x128_1_0_0_1_n_n none (shapeCast S640x512 cm shapeCasts_S640x512_S640x512)
    (concatenate S512x128 1
      [⟨S512x64, matmul dot_S512x1024_S1024x64_S512x64_1_0_0_1_n_n none
          (extractStridedSlice S512x1024 ![0, 0] u slices_S512x2048_o0_0_S512x1024)
          (shapeCast S1024x64 w shapeCasts_S1024x64_S1024x64) (constant S512x64 .f32 0x00000000#32)⟩,
       ⟨S512x64, matmul dot_S512x1024_S1024x64_S512x64_1_0_0_1_n_n none
          (extractStridedSlice S512x1024 ![0, 1024] u slices_S512x2048_o0_1024_S512x1024)
          (shapeCast S1024x64 w shapeCasts_S1024x64_S1024x64) (constant S512x64 .f32 0x00000000#32)⟩]
      concatenates_S512x64_S512x64_S512x128_d1)
    (constant S640x128 .f32 0x00000000#32)

/-- The tails' keys and values of the two heads. -/
def tails (cg : FVec Ideal S640x128 .f32) (bb : FVec Ideal S1x1024 .f32) (p : ℕ) (hp : S1x1024.Slices ![0, p] S1x128) :
    FVec Ideal S512x128 .f32 :=
  addf (extractStridedSlice S512x128 ![0, 0] cg slices_S640x128_o0_0_S512x128)
    (broadcastTo S512x128 (extractStridedSlice S1x128 ![0, p] bb hp) broadcasts_S1x128_S512x128)

/-- The sets' keys and values of the two heads. -/
def sets (cg : FVec Ideal S640x128 .f32) (bb : FVec Ideal S1x1024 .f32) (p : ℕ) (hp : S1x1024.Slices ![0, p] S1x128) :
    FVec Ideal S127x128 .f32 :=
  addf (extractStridedSlice S127x128 ![512, 0] cg slices_S640x128_o512_0_S127x128)
    (broadcastTo S127x128 (extractStridedSlice S1x128 ![0, p] bb hp) broadcasts_S1x128_S127x128)

/-- The average of the sets' values and the tail's, from a head's logits. -/
def soft (lg : FVec Ideal S512x127 .f32) (tl : FVec Ideal S512x1 .f32) (vset : FVec Ideal S127x32 .f32)
    (vtail : FVec Ideal S512x32 .f32) : FVec Ideal S512x32 .f32 :=
  have m : FVec Ideal S512x1 .f32 := maximumf
    (shapeCast S512x1 (multiReduction .maximumf [1] S512 lg 0xFF800000#32 reduces_S512x127_S512 (.inl rfl) rfl)
      shapeCasts_S512_S512x1) tl
  have e : FVec Ideal S512x127 .f32 := exp (subf lg (broadcastTo S512x127 m broadcasts_S512x1_S512x127))
  have etl : FVec Ideal S512x1 .f32 := exp (subf tl m)
  have s : FVec Ideal S512x1 .f32 := addf
    (shapeCast S512x1 (multiReduction .add [1] S512 e 0x00000000#32 reduces_S512x127_S512 (.inl rfl) rfl)
      shapeCasts_S512_S512x1) etl
  divf (addf (matmul dot_S512x127_S127x32_S512x32_1_0_0_1_n_n none e vset (constant S512x32 .f32 0x00000000#32))
      (mulf (broadcastTo S512x32 etl broadcasts_S512x1_S512x32) vtail))
    (broadcastTo S512x32 s broadcasts_S512x1_S512x32)

/-- A head's logits over the sets, -/
def logits (qh : FVec Ideal S512x32 .f32) (mask : FVec Ideal S512x127 .f32) (kset : FVec Ideal S127x32 .f32) :
    FVec Ideal S512x127 .f32 :=
  addf (matmul dot_S512x32_S127x32_S512x127_1_1_0_0_n_n none qh kset (constant S512x127 .f32 0x00000000#32)) mask

/-- and over the tail. -/
def tailLogit (qh ktail : FVec Ideal S512x32 .f32) : FVec Ideal S512x1 .f32 :=
  shapeCast S512x1 (multiReduction .add [1] S512 (mulf qh ktail) 0x00000000#32 reduces_S512x32_S512 (.inl rfl) rfl)
    shapeCasts_S512_S512x1

/-- A head: its queries begin at column `a`, its keys at column `b` of the group's, its values at column `b'`. -/
def attend (q : FVec Ideal S512x512 .f32) (mask : FVec Ideal S512x127 .f32) (tv : FVec Ideal S512x128 .f32)
    (sv : FVec Ideal S127x128 .f32) (a b b' : ℕ) (ha : S512x512.Slices ![0, a] S512x32)
    (hb : S127x128.Slices ![0, b] S127x32) (hb' : S127x128.Slices ![0, b'] S127x32)
    (tb : S512x128.Slices ![0, b] S512x32) (tb' : S512x128.Slices ![0, b'] S512x32) : FVec Ideal S512x32 .f32 :=
  soft (logits (extractStridedSlice S512x32 ![0, a] q ha) mask (extractStridedSlice S127x32 ![0, b] sv hb))
    (tailLogit (extractStridedSlice S512x32 ![0, a] q ha) (extractStridedSlice S512x32 ![0, b] tv tb))
    (extractStridedSlice S127x32 ![0, b'] sv hb') (extractStridedSlice S512x32 ![0, b'] tv tb')

theorem ho (g : Fin 8) : S512x512.Slices ![0, 64 * (g : ℕ)] S512x64 := by
  revert g; decide
theorem hp (g : Fin 8) : S1x1024.Slices ![0, 128 * (g : ℕ)] S1x128 := by
  revert g; decide
theorem ha (g : Fin 8) (j : Fin 2) : S512x512.Slices ![0, 64 * (g : ℕ) + 32 * (j : ℕ)] S512x32 := by
  revert g j; decide
theorem hb (j : Fin 2) : S127x128.Slices ![0, 64 * (j : ℕ)] S127x32 := by
  revert j; decide
theorem hb' (j : Fin 2) : S127x128.Slices ![0, 64 * (j : ℕ) + 32] S127x32 := by
  revert j; decide
theorem tb (j : Fin 2) : S512x128.Slices ![0, 64 * (j : ℕ)] S512x32 := by
  revert j; decide
theorem tb' (j : Fin 2) : S512x128.Slices ![0, 64 * (j : ℕ) + 32] S512x32 := by
  revert j; decide

variable (a0 : FVec Ideal S1x512x512 .f32) (a1 : FVec Ideal S512x1536 .f32) (a2 : FVec Ideal S1024x64 .f32)
  (a3 : FVec Ideal S1x1024 .f32) (a5 : FVec Ideal S640x512 .f32)
  (a6 : FVec Ideal S512x127 .f32) (a7 a8 : FVec Ideal S64x2048 .f32)

/-- The sums of group `g`. -/
def groupSums (g : Fin 8) : FVec Ideal S640x128 .f32 :=
  sums (outer (k0_pay6 (F := Ideal) a0 a1) (k0_pay7 (F := Ideal) a0 a1) a7 a8 (64 * (g : ℕ)) (ho g)) a2 a5

/-- Head `j` of group `g`. -/
def head (g : Fin 8) (j : Fin 2) : FVec Ideal S512x32 .f32 :=
  attend (k0_pay5 (F := Ideal) a0 a1) (k0_pay9 (F := Ideal) a6)
    (tails (groupSums a0 a1 a2 a5 a7 a8 g) (k0_pay8 (F := Ideal) a3) (128 * (g : ℕ)) (hp g))
    (sets (groupSums a0 a1 a2 a5 a7 a8 g) (k0_pay8 (F := Ideal) a3) (128 * (g : ℕ)) (hp g))
    (64 * (g : ℕ) + 32 * (j : ℕ)) (64 * (j : ℕ)) (64 * (j : ℕ) + 32) (ha g j) (hb j) (hb' j) (tb j) (tb' j)

/-- The sixteen heads side by side. -/
def heads : FVec Ideal S512x512 .f32 :=
  concatenate S512x512 1
    [⟨S512x32, head a0 a1 a2 a3 a5 a6 a7 a8 0 0⟩, ⟨S512x32, head a0 a1 a2 a3 a5 a6 a7 a8 0 1⟩,
     ⟨S512x32, head a0 a1 a2 a3 a5 a6 a7 a8 1 0⟩, ⟨S512x32, head a0 a1 a2 a3 a5 a6 a7 a8 1 1⟩,
     ⟨S512x32, head a0 a1 a2 a3 a5 a6 a7 a8 2 0⟩, ⟨S512x32, head a0 a1 a2 a3 a5 a6 a7 a8 2 1⟩,
     ⟨S512x32, head a0 a1 a2 a3 a5 a6 a7 a8 3 0⟩, ⟨S512x32, head a0 a1 a2 a3 a5 a6 a7 a8 3 1⟩,
     ⟨S512x32, head a0 a1 a2 a3 a5 a6 a7 a8 4 0⟩, ⟨S512x32, head a0 a1 a2 a3 a5 a6 a7 a8 4 1⟩,
     ⟨S512x32, head a0 a1 a2 a3 a5 a6 a7 a8 5 0⟩, ⟨S512x32, head a0 a1 a2 a3 a5 a6 a7 a8 5 1⟩,
     ⟨S512x32, head a0 a1 a2 a3 a5 a6 a7 a8 6 0⟩, ⟨S512x32, head a0 a1 a2 a3 a5 a6 a7 a8 6 1⟩,
     ⟨S512x32, head a0 a1 a2 a3 a5 a6 a7 a8 7 0⟩, ⟨S512x32, head a0 a1 a2 a3 a5 a6 a7 a8 7 1⟩]
    concatenates_S512x32_S512x32_S512x32_S512x32_S512x32_S512x32_S512x32_S512x32_S512x32_S512x32_S512x32_S512x32_S512x32_S512x32_S512x32_S512x32_S512x512_d1

end Cert.KernelIdeal.Heads

end
-- ==== Proof.HeadsAt.lean ====
module

public import proofs.«01_k».proof.Proof.Heads
public import proofs.«01_k».proof.Proof.Middle

@[expose] public section

/-! # A head at an index is the formula -/

set_option maxRecDepth 16384

noncomputable section

namespace Cert.KernelIdeal.Heads

open Idealize.ShloMosaic Idealize.ShloMosaic.TcCoe Idealize.SL.Sem
open Cert.KernelIdeal Cert.KernelIdeal.Gen Cert.Maths

variable (a0 : FVec Ideal S1x512x512 .f32) (a1 : FVec Ideal S512x1536 .f32)

theorem k_at (t c : Fin 512) : k0_pay6 (F := Ideal) a0 a1 (ix2 t c)
    = phi (∑ f : Fin 512, a0 (ix3 0 t f) * a1 (ix2 f ⟨512 + c, by omega⟩)) := by
  pointwise [k0_pay6, k0_pay4]
  rfl

theorem q_at (t c : Fin 512) : k0_pay5 (F := Ideal) a0 a1 (ix2 t c)
    = phi (∑ f : Fin 512, a0 (ix3 0 t f) * a1 (ix2 f ⟨c, by omega⟩)) * (((Real.sqrt 32)⁻¹ : ℝ) : EReal) := by
  pointwise [k0_pay5, k0_pay4]
  rfl

theorem v_at (t c : Fin 512) : k0_pay7 (F := Ideal) a0 a1 (ix2 t c)
    = (∑ f : Fin 512, a0 (ix3 0 t f) * a1 (ix2 f ⟨1024 + c, by omega⟩)) := by
  pointwise [k0_pay7, k0_pay4]

theorem mask_at (a6 : FVec Ideal S512x127 .f32) (t : Fin 512) (s : Fin 127) : k0_pay9 (F := Ideal) a6 (ix2 t s)
    = if a6 (ix2 t s) < 0 then ⊥ else 0 := by
  pointwise [k0_pay9]
  rfl

theorem bias_at (a3 : FVec Ideal S1x1024 .f32) (c : Fin 1024) : k0_pay8 (F := Ideal) a3 (ix2 0 c) = a3 (ix2 0 c) := by
  pointwise [k0_pay8]

theorem outer_at (k v : FVec Ideal S512x512 .f32) (sp ti : FVec Ideal S64x2048 .f32) (o : ℕ)
    (ho : S512x512.Slices ![0, o] S512x64) (ho' : o + 64 ≤ 512) (t : Fin 512) (l : Fin 2048) :
    outer k v sp ti o ho (ix2 t l)
      = (∑ i : Fin 64, k (ix2 t ⟨o + i, by omega⟩) * sp (ix2 i l))
        * ∑ i : Fin 64, v (ix2 t ⟨o + i, by omega⟩) * ti (ix2 i l) := by
  pointwise [outer]

theorem sums_at (u : FVec Ideal S512x2048 .f32) (w : FVec Ideal S1024x64 .f32) (cm : FVec Ideal S640x512 .f32)
    (r : Fin 640) (j : Fin 2) (d : Fin 64) : sums u w cm (ix2 r ⟨64 * j + d, by omega⟩)
      = ∑ x : Fin 512, cm (ix2 r x) * ∑ f : Fin 1024, u (ix2 x ⟨1024 * j + f, by omega⟩) * w (ix2 f d) := by
  pointwise [sums]
  fin_vals j with hj <;> simp only [hj, Nat.reduceMul, Nat.reduceAdd, Nat.zero_add]
  · simp only [d.isLt, ↓reduceDIte, Fin.eta]
  · simp only [show ¬ 64 + (d : ℕ) < 64 by omega, ↓reduceDIte, Nat.add_sub_cancel_left, Fin.eta]

theorem tails_at (cg : FVec Ideal S640x128 .f32) (bb : FVec Ideal S1x1024 .f32) (p : ℕ) (hp : S1x1024.Slices ![0, p] S1x128)
    (hp' : p + 128 ≤ 1024) (t : Fin 512) (c : Fin 128) :
    tails cg bb p hp (ix2 t c) = cg (ix2 ⟨t, by omega⟩ c) + bb (ix2 0 ⟨p + c, by omega⟩) := by
  pointwise [tails]

theorem sets_at (cg : FVec Ideal S640x128 .f32) (bb : FVec Ideal S1x1024 .f32) (p : ℕ) (hp : S1x1024.Slices ![0, p] S1x128)
    (hp' : p + 128 ≤ 1024) (s : Fin 127) (c : Fin 128) :
    sets cg bb p hp (ix2 s c) = cg (ix2 ⟨512 + s, by omega⟩ c) + bb (ix2 0 ⟨p + c, by omega⟩) := by
  pointwise [sets]

theorem soft_at (lg : FVec Ideal S512x127 .f32) (tl : FVec Ideal S512x1 .f32) (vset : FVec Ideal S127x32 .f32)
    (vtail : FVec Ideal S512x32 .f32) (t : Fin 512) (e : Fin 32) :
    soft lg tl vset vtail (ix2 t e)
      = average (fun s => lg (ix2 t s)) (tl (ix2 t 0)) (fun s => vset (ix2 s e)) (vtail (ix2 t e)) := by
  pointwise [soft]
  rw [show Ideal.ofBits FTy.f32 4286578688#32 = ⊥ from rfl]
  rfl

theorem logits_at (qh : FVec Ideal S512x32 .f32) (mask : FVec Ideal S512x127 .f32) (kset : FVec Ideal S127x32 .f32)
    (t : Fin 512) (s : Fin 127) :
    logits qh mask kset (ix2 t s) = (∑ d : Fin 32, qh (ix2 t d) * kset (ix2 s d)) + mask (ix2 t s) := by
  pointwise [logits]

theorem tailLogit_at (qh ktail : FVec Ideal S512x32 .f32) (t : Fin 512) :
    tailLogit qh ktail (ix2 t 0) = ∑ d : Fin 32, qh (ix2 t d) * ktail (ix2 t d) := by
  pointwise [tailLogit]

theorem attend_at (q : FVec Ideal S512x512 .f32) (mask : FVec Ideal S512x127 .f32) (tv : FVec Ideal S512x128 .f32)
    (sv : FVec Ideal S127x128 .f32) (a b b' : ℕ) (ha : S512x512.Slices ![0, a] S512x32)
    (hb : S127x128.Slices ![0, b] S127x32) (hb' : S127x128.Slices ![0, b'] S127x32)
    (tb : S512x128.Slices ![0, b] S512x32) (tb' : S512x128.Slices ![0, b'] S512x32)
    (la : a + 32 ≤ 512) (lb : b + 32 ≤ 128) (lb' : b' + 32 ≤ 128) (t : Fin 512) (e : Fin 32) :
    attend q mask tv sv a b b' ha hb hb' tb tb' (ix2 t e)
      = average
          (fun s => (∑ d : Fin 32, q (ix2 t ⟨a + d, by omega⟩) * sv (ix2 s ⟨b + d, by omega⟩)) + mask (ix2 t s))
          (∑ d : Fin 32, q (ix2 t ⟨a + d, by omega⟩) * tv (ix2 t ⟨b + d, by omega⟩))
          (fun s => sv (ix2 s ⟨b' + e, by omega⟩)) (tv (ix2 t ⟨b' + e, by omega⟩)) := by
  rw [attend, soft_at]
  simp only [logits_at, tailLogit_at]
  pointwise

/-- One entry picked out of 64. -/
theorem pick (F : Fin 64 → EReal) (n : ℕ) (h : n < 64) :
    ∑ i : Fin 64, F i * (if (i : ℕ) = n then (1 : EReal) else 0) = F ⟨n, h⟩ := by
  rw [Finset.sum_eq_single ⟨n, h⟩]
  · simp
  · intro b _ hb
    rw [if_neg (fun h' => hb (Fin.ext h')), mul_zero]
  · intro h'; exact absurd (Finset.mem_univ _) h'

/-- What the loaded vectors hold: a batch entry, the weights, and the tables of zeros and ones. -/
structure Loaded (I : Inputs) (a0 : FVec Ideal S1x512x512 .f32) (a1 : FVec Ideal S512x1536 .f32)
    (a2 : FVec Ideal S1024x64 .f32) (a3 : FVec Ideal S1x1024 .f32) (a5 : FVec Ideal S640x512 .f32)
    (a6 : FVec Ideal S512x127 .f32) (a7 a8 : FVec Ideal S64x2048 .f32) : Prop where
  x : ∀ t f : Fin 512, a0 (ix3 0 t f) = I.x t f
  wq : ∀ f c : Fin 512, a1 (ix2 f ⟨c, by omega⟩) = I.wq f c
  wk : ∀ f c : Fin 512, a1 (ix2 f ⟨512 + c, by omega⟩) = I.wk f c
  wv : ∀ f c : Fin 512, a1 (ix2 f ⟨1024 + c, by omega⟩) = I.wv f c
  wkm : ∀ (f : Fin 1024) (d : Fin 32), a2 (ix2 f ⟨d, by omega⟩) = I.wkm f d
  wvm : ∀ (f : Fin 1024) (d : Fin 32), a2 (ix2 f ⟨32 + d, by omega⟩) = I.wvm f d
  bkm : ∀ (h : Fin 16) (d : Fin 32), a3 (ix2 0 ⟨64 * h + d, by omega⟩) = I.bkm d
  bvm : ∀ (h : Fin 16) (d : Fin 32), a3 (ix2 0 ⟨64 * h + 32 + d, by omega⟩) = I.bvm d
  tail : ∀ r t : Fin 512, a5 (ix2 ⟨r, by omega⟩ t) = if inTail r t then 1 else 0
  set : ∀ (s : Fin 127) (t : Fin 512), a5 (ix2 ⟨512 + s, by omega⟩ t) = if inSet s t then 1 else 0
  mask : ∀ (r : Fin 512) (s : Fin 127), a6 (ix2 r s) < 0 ↔ ¬ visible r s
  spread : ∀ (i : Fin 64) (j : Fin 2) (f : Fin 1024),
    a7 (ix2 i ⟨1024 * j + f, by omega⟩) = if (i : ℕ) = 32 * j + f / 32 then 1 else 0
  tile : ∀ (i : Fin 64) (j : Fin 2) (f : Fin 1024),
    a8 (ix2 i ⟨1024 * j + f, by omega⟩) = if (i : ℕ) = 32 * j + f % 32 then 1 else 0

/-- The head's number. -/
def hd (g : Fin 8) (j : Fin 2) : Fin 16 := ⟨2 * g + j, by omega⟩

section

variable {I : Inputs} {a0 : FVec Ideal S1x512x512 .f32} {a1 : FVec Ideal S512x1536 .f32}
  {a2 : FVec Ideal S1024x64 .f32} {a3 : FVec Ideal S1x1024 .f32} {a5 : FVec Ideal S640x512 .f32}
  {a6 : FVec Ideal S512x127 .f32} {a7 a8 : FVec Ideal S64x2048 .f32}
  (L : Loaded I a0 a1 a2 a3 a5 a6 a7 a8) (H : I.Finite)
include L

theorem q_eq (t c : Fin 512) :
    k0_pay5 (F := Ideal) a0 a1 (ix2 t c) = I.q t c * (((Real.sqrt 32)⁻¹ : ℝ) : EReal) := by
  rw [q_at]; simp only [L.x, L.wq]; rfl
theorem k_eq (t c : Fin 512) : k0_pay6 (F := Ideal) a0 a1 (ix2 t c) = I.k t c := by
  rw [k_at]; simp only [L.x, L.wk]; rfl
theorem v_eq (t c : Fin 512) : k0_pay7 (F := Ideal) a0 a1 (ix2 t c) = I.v t c := by
  rw [v_at]; simp only [L.x, L.wv]; rfl

theorem feat_eq (g : Fin 8) (j : Fin 2) (t : Fin 512) (f : Fin 1024) :
    outer (k0_pay6 (F := Ideal) a0 a1) (k0_pay7 (F := Ideal) a0 a1) a7 a8 (64 * (g : ℕ)) (ho g)
        (ix2 t ⟨1024 * j + f, by omega⟩) = I.feat (hd g j) t f := by
  rw [outer_at _ _ _ _ _ _ (by omega)]
  simp only [L.spread, L.tile, k_eq L, v_eq L]
  rw [pick _ (32 * j + f / 32) (by omega), pick _ (32 * j + f % 32) (by omega)]
  unfold Inputs.feat
  congr 3 <;> (simp only [hd]; omega)

include H

theorem group_eq (g : Fin 8) (j : Fin 2) (r : Fin 640) (P : ℕ → Prop) [DecidablePred P]
    (hP : ∀ t : Fin 512, a5 (ix2 r t) = if P t then 1 else 0) (d : Fin 64) (w : Fin 1024 → EReal)
    (hw : ∀ f, a2 (ix2 f d) = w f) (fw : ∀ f, Fin' (w f)) :
    groupSums a0 a1 a2 a5 a7 a8 g (ix2 r ⟨64 * j + d, by omega⟩)
      = ∑ f, (∑ t : Fin 512, if P t then I.feat (hd g j) t f else 0) * w f := by
  rw [groupSums, sums_at]
  simp only [feat_eq L, hP, hw]
  exact sum_matmul (fun t : Fin 512 => P t) (fun t f => I.feat (hd g j) t f) w (fun t f => Inputs.fin_feat H _ _ _) fw

theorem tailKey_eq (g : Fin 8) (j : Fin 2) (t : Fin 512) (d : Fin 32) :
    tails (groupSums a0 a1 a2 a5 a7 a8 g) (k0_pay8 (F := Ideal) a3) (128 * (g : ℕ)) (hp g)
        (ix2 t ⟨64 * j + d, by omega⟩) = I.summary I.wkm I.bkm (hd g j) (inTail t) d := by
  rw [tails_at _ _ _ _ (by omega), bias_at,
    group_eq L H g j _ (inTail t) (L.tail t) ⟨d, by omega⟩ (fun f => I.wkm f d) (fun f => L.wkm f d) fun f => H.wkm f d]
  unfold Inputs.summary
  rw [← L.bkm (hd g j) d]
  congr 3
  unfold hd; apply Fin.ext; simp only; omega

theorem setKey_eq (g : Fin 8) (j : Fin 2) (s : Fin 127) (d : Fin 32) :
    sets (groupSums a0 a1 a2 a5 a7 a8 g) (k0_pay8 (F := Ideal) a3) (128 * (g : ℕ)) (hp g)
        (ix2 s ⟨64 * j + d, by omega⟩) = I.summary I.wkm I.bkm (hd g j) (inSet s) d := by
  rw [sets_at _ _ _ _ (by omega), bias_at,
    group_eq L H g j _ (inSet s) (L.set s) ⟨d, by omega⟩ (fun f => I.wkm f d) (fun f => L.wkm f d) fun f => H.wkm f d]
  unfold Inputs.summary
  rw [← L.bkm (hd g j) d]
  congr 3
  unfold hd; apply Fin.ext; simp only; omega

theorem tailVal_eq (g : Fin 8) (j : Fin 2) (t : Fin 512) (d : Fin 32) :
    tails (groupSums a0 a1 a2 a5 a7 a8 g) (k0_pay8 (F := Ideal) a3) (128 * (g : ℕ)) (hp g)
        (ix2 t ⟨64 * j + 32 + d, by omega⟩) = I.summary I.wvm I.bvm (hd g j) (inTail t) d := by
  have e : (⟨64 * j + 32 + d, by omega⟩ : Fin 128) = ⟨64 * j + (⟨32 + d, by omega⟩ : Fin 64), by simp only; omega⟩ :=
    Fin.ext (by simp only; omega)
  rw [e, tails_at _ _ _ _ (by omega), bias_at,
    group_eq L H g j _ (inTail t) (L.tail t) ⟨32 + d, by omega⟩ (fun f => I.wvm f d) (fun f => L.wvm f d) fun f => H.wvm f d]
  unfold Inputs.summary
  rw [← L.bvm (hd g j) d]
  congr 3
  unfold hd; apply Fin.ext; simp only; omega

theorem setVal_eq (g : Fin 8) (j : Fin 2) (s : Fin 127) (d : Fin 32) :
    sets (groupSums a0 a1 a2 a5 a7 a8 g) (k0_pay8 (F := Ideal) a3) (128 * (g : ℕ)) (hp g)
        (ix2 s ⟨64 * j + 32 + d, by omega⟩) = I.summary I.wvm I.bvm (hd g j) (inSet s) d := by
  have e : (⟨64 * j + 32 + d, by omega⟩ : Fin 128) = ⟨64 * j + (⟨32 + d, by omega⟩ : Fin 64), by simp only; omega⟩ :=
    Fin.ext (by simp only; omega)
  rw [e, sets_at _ _ _ _ (by omega), bias_at,
    group_eq L H g j _ (inSet s) (L.set s) ⟨32 + d, by omega⟩ (fun f => I.wvm f d) (fun f => L.wvm f d) fun f => H.wvm f d]
  unfold Inputs.summary
  rw [← L.bvm (hd g j) d]
  congr 3
  unfold hd; apply Fin.ext; simp only; omega

theorem head_eq (g : Fin 8) (j : Fin 2) (t : Fin 512) (e : Fin 32) :
    head a0 a1 a2 a3 a5 a6 a7 a8 g j (ix2 t e) = I.out (hd g j) t e := by
  rw [head, attend_at _ _ _ _ _ _ _ _ _ _ _ _ (by omega) (by omega) (by omega)]
  simp only [q_eq L, tailKey_eq L H, setKey_eq L H, tailVal_eq L H, setVal_eq L H, mask_at]
  have hc : ∀ d : Fin 32, (⟨64 * (g : ℕ) + 32 * (j : ℕ) + d, by omega⟩ : Fin 512) = col (hd g j) d := fun d => by
    unfold col hd; apply Fin.ext; simp only; omega
  have h32 : Real.sqrt 32 ≠ 0 := by positivity
  simp only [hc]
  unfold Inputs.out
  congr 1
  · funext s
    rw [scale_dot _ _ (fun d => Inputs.fin_q H _ _) (fun d => Inputs.fin_key H _ _ _) _ h32]
    unfold Inputs.logit
    by_cases hv : visible t s
    · rw [if_neg (fun h => (L.mask t s).mp h hv), if_pos hv, add_zero]
    · rw [if_pos ((L.mask t s).mpr hv), if_neg hv, EReal.add_bot]
  · exact scale_dot _ _ (fun d => Inputs.fin_q H _ _) (fun d => Inputs.fin_key H _ _ _) _ h32

end

end Cert.KernelIdeal.Heads

end
-- ==== Proof.Block.lean ====
module

public import proofs.«01_k».proof.Proof.Heads
public import proofs.«01_k».proof.Proof.Gen.KernelIdeal.Value
public import Idealize.ShloMosaic.Lib.Pipeline.ValueKit

@[expose] public section

/-! # What the body stores is the sixteen heads times the output weights -/

set_option maxRecDepth 65536

noncomputable section

namespace Cert.KernelIdeal.Heads

open Idealize.ShloMosaic Idealize.ShloMosaic.TcCoe Idealize.SL.Sem
open Cert.KernelIdeal Cert.KernelIdeal.Gen

/-! Each load reads its whole block. -/

theorem ld0 (X : Vec Ideal S1x512x512 .f32) : View.ld X r0_0 = X :=
  View.ld_unit_lit (S := S1x512x512) (off := ![0, 0, 0]) _ X (by decide)
theorem ld1 (X : Vec Ideal S512x1536 .f32) : View.ld X r0_1 = X :=
  View.ld_unit_lit (S := S512x1536) (off := ![0, 0]) _ X (by decide)
theorem ld2 (X : Vec Ideal S1x1024 .f32) : View.ld X r0_2 = X :=
  View.ld_unit_lit (S := S1x1024) (off := ![0, 0]) _ X (by decide)
theorem ld3 (X : Vec Ideal S512x127 .f32) : View.ld X r0_3 = X :=
  View.ld_unit_lit (S := S512x127) (off := ![0, 0]) _ X (by decide)
theorem ld4 (X : Vec Ideal S64x2048 .f32) : View.ld X r0_4 = X :=
  View.ld_unit_lit (S := S64x2048) (off := ![0, 0]) _ X (by decide)
theorem ld5 (X : Vec Ideal S1024x64 .f32) : View.ld X r0_5 = X :=
  View.ld_unit_lit (S := S1024x64) (off := ![0, 0]) _ X (by decide)
theorem ld6 (X : Vec Ideal S640x512 .f32) : View.ld X r0_6 = X :=
  View.ld_unit_lit (S := S640x512) (off := ![0, 0]) _ X (by decide)
theorem ld7 (X : Vec Ideal S512x512 .f32) : View.ld X r0_7 = X :=
  View.ld_unit_lit (S := S512x512) (off := ![0, 0]) _ X (by decide)

/-- Sixteen pieces equal one by one. -/
theorem cat16 {p0 p1 p2 p3 p4 p5 p6 p7 p8 p9 p10 p11 p12 p13 p14 p15 q0 q1 q2 q3 q4 q5 q6 q7 q8 q9 q10 q11 q12 q13 q14 q15 : FVec Ideal S512x32 .f32}
    (e0 : p0 = q0) (e1 : p1 = q1) (e2 : p2 = q2) (e3 : p3 = q3) (e4 : p4 = q4) (e5 : p5 = q5) (e6 : p6 = q6) (e7 : p7 = q7) (e8 : p8 = q8) (e9 : p9 = q9) (e10 : p10 = q10) (e11 : p11 = q11) (e12 : p12 = q12) (e13 : p13 = q13) (e14 : p14 = q14) (e15 : p15 = q15) :
    concatenate S512x512 1 [⟨S512x32, p0⟩, ⟨S512x32, p1⟩, ⟨S512x32, p2⟩, ⟨S512x32, p3⟩, ⟨S512x32, p4⟩, ⟨S512x32, p5⟩, ⟨S512x32, p6⟩, ⟨S512x32, p7⟩, ⟨S512x32, p8⟩, ⟨S512x32, p9⟩, ⟨S512x32, p10⟩, ⟨S512x32, p11⟩, ⟨S512x32, p12⟩, ⟨S512x32, p13⟩, ⟨S512x32, p14⟩, ⟨S512x32, p15⟩]
        concatenates_S512x32_S512x32_S512x32_S512x32_S512x32_S512x32_S512x32_S512x32_S512x32_S512x32_S512x32_S512x32_S512x32_S512x32_S512x32_S512x32_S512x512_d1
      = concatenate S512x512 1 [⟨S512x32, q0⟩, ⟨S512x32, q1⟩, ⟨S512x32, q2⟩, ⟨S512x32, q3⟩, ⟨S512x32, q4⟩, ⟨S512x32, q5⟩, ⟨S512x32, q6⟩, ⟨S512x32, q7⟩, ⟨S512x32, q8⟩, ⟨S512x32, q9⟩, ⟨S512x32, q10⟩, ⟨S512x32, q11⟩, ⟨S512x32, q12⟩, ⟨S512x32, q13⟩, ⟨S512x32, q14⟩, ⟨S512x32, q15⟩]
        concatenates_S512x32_S512x32_S512x32_S512x32_S512x32_S512x32_S512x32_S512x32_S512x32_S512x32_S512x32_S512x32_S512x32_S512x32_S512x32_S512x32_S512x512_d1 := by
  rw [e0, e1, e2, e3, e4, e5, e6, e7, e8, e9, e10, e11, e12, e13, e14, e15]

theorem out_eq (x0 : FVec Ideal S1x512x512 .f32) (x1 : FVec Ideal S512x1536 .f32) (x2 : FVec Ideal S1024x64 .f32)
    (x3 : FVec Ideal S1x1024 .f32) (x4 : FVec Ideal S512x512 .f32) (x5 : FVec Ideal S640x512 .f32)
    (x6 : FVec Ideal S512x127 .f32) (x7 x8 : FVec Ideal S64x2048 .f32) :
    out0_9 (F := Ideal) x0 x1 x2 x3 x4 x5 x6 x7 x8 = k0_pay3 (F := Ideal) (heads x0 x1 x2 x3 x5 x6 x7 x8) x4 := by
  frame_out
  unfold k0_pay139 k0_pay138 k0_pay137 k0_pay136 k0_pay135 k0_pay134 k0_pay133 k0_pay132 k0_pay131 k0_pay130 k0_pay129 k0_pay128 k0_pay127 k0_pay126 k0_pay125 k0_pay124 k0_pay123 k0_pay122 k0_pay121 k0_pay120
  generalize h0 : View.ld (Val := Elt Ideal) (S := S1x512x512) (e' := .f32) x0 r0_0 = y0
  generalize h1 : View.ld (Val := Elt Ideal) (S := S512x1536) (e' := .f32) x1 r0_1 = y1
  generalize h2 : View.ld (Val := Elt Ideal) (S := S1024x64) (e' := .f32) x2 r0_5 = y2
  generalize h3 : View.ld (Val := Elt Ideal) (S := S1x1024) (e' := .f32) x3 r0_2 = y3
  generalize h5 : View.ld (Val := Elt Ideal) (S := S640x512) (e' := .f32) x5 r0_6 = y5
  generalize h6 : View.ld (Val := Elt Ideal) (S := S512x127) (e' := .f32) x6 r0_3 = y6
  generalize h7 : View.ld (Val := Elt Ideal) (S := S64x2048) (e' := .f32) x7 r0_4 = y7
  generalize h8 : View.ld (Val := Elt Ideal) (S := S64x2048) (e' := .f32) x8 r0_4 = y8
  have e0 : y0 = x0 := h0.symm.trans (ld0 x0)
  have e1 : y1 = x1 := h1.symm.trans (ld1 x1)
  have e2 : y2 = x2 := h2.symm.trans (ld5 x2)
  have e3 : y3 = x3 := h3.symm.trans (ld2 x3)
  have e5 : y5 = x5 := h5.symm.trans (ld6 x5)
  have e6 : y6 = x6 := h6.symm.trans (ld3 x6)
  have e7 : y7 = x7 := h7.symm.trans (ld4 x7)
  have e8 : y8 = x8 := h8.symm.trans (ld4 x8)
  clear h0 h1 h2 h3 h5 h6 h7 h8
  rw [← e0, ← e1, ← e2, ← e3, ← e5, ← e6, ← e7, ← e8]
  clear e0 e1 e2 e3 e5 e6 e7 e8
  refine congrArg (fun z => k0_pay3 (F := Ideal) z x4) (cat16 ?_ ?_ ?_ ?_ ?_ ?_ ?_ ?_ ?_ ?_ ?_ ?_ ?_ ?_ ?_ ?_ )
  all_goals rfl

end Cert.KernelIdeal.Heads

end
-- ==== Proof.BlockAt.lean ====
module

public import proofs.«01_k».proof.Proof.HeadsAt
public import proofs.«01_k».proof.Proof.Block

@[expose] public section

/-! # What the body stores, at an index, is the formula times the output weights -/

set_option maxRecDepth 16384

noncomputable section

namespace Cert.KernelIdeal.Heads

open Idealize.ShloMosaic Idealize.ShloMosaic.TcCoe Idealize.SL.Sem
open Cert.KernelIdeal Cert.KernelIdeal.Gen Cert.Maths

/-- Head number `n`. -/
def headNo (a0 : FVec Ideal S1x512x512 .f32) (a1 : FVec Ideal S512x1536 .f32) (a2 : FVec Ideal S1024x64 .f32)
    (a3 : FVec Ideal S1x1024 .f32) (a5 : FVec Ideal S640x512 .f32)
    (a6 : FVec Ideal S512x127 .f32) (a7 a8 : FVec Ideal S64x2048 .f32) (n : Fin 16) : FVec Ideal S512x32 .f32 :=
  head a0 a1 a2 a3 a5 a6 a7 a8 ⟨(n : ℕ) / 2, by omega⟩ ⟨(n : ℕ) % 2, by omega⟩

theorem heads_eq {I : Inputs} {a0 : FVec Ideal S1x512x512 .f32} {a1 : FVec Ideal S512x1536 .f32}
    {a2 : FVec Ideal S1024x64 .f32} {a3 : FVec Ideal S1x1024 .f32} {a5 : FVec Ideal S640x512 .f32}
    {a6 : FVec Ideal S512x127 .f32} {a7 a8 : FVec Ideal S64x2048 .f32}
    (L : Loaded I a0 a1 a2 a3 a5 a6 a7 a8) (H : I.Finite) (t : Fin 512) (h : Fin 16) (e : Fin 32) :
    heads a0 a1 a2 a3 a5 a6 a7 a8 (ix2 t (col h e)) = I.out h t e := by
  have hn : hd ⟨(h : ℕ) / 2, by omega⟩ ⟨(h : ℕ) % 2, by omega⟩ = h := Fin.ext (by simp only [hd]; omega)
  refine (concatenate_ofFn_apply (t := S512x512) (s₁ := S512x32) 1 (headNo a0 a1 a2 a3 a5 a6 a7 a8)
    concatenates_S512x32_S512x32_S512x32_S512x32_S512x32_S512x32_S512x32_S512x32_S512x32_S512x32_S512x32_S512x32_S512x32_S512x32_S512x32_S512x32_S512x512_d1
    rfl 32 rfl (ix2 t (col h e)) h
    (by change (32 * (h : ℕ) + e) / 32 = h; omega) (ix2 t e) (by change (e : ℕ) = (32 * h + e) % 32; omega)
    (by intro b hb; fin_cases b; exacts [rfl, absurd rfl hb])).trans ?_
  rw [headNo, head_eq L H, hn]

/-- What the body stores, at an index. -/
theorem out_at {I : Inputs} {a0 : FVec Ideal S1x512x512 .f32} {a1 : FVec Ideal S512x1536 .f32}
    {a2 : FVec Ideal S1024x64 .f32} {a3 : FVec Ideal S1x1024 .f32} {a5 : FVec Ideal S640x512 .f32}
    {a6 : FVec Ideal S512x127 .f32} {a7 a8 : FVec Ideal S64x2048 .f32}
    (L : Loaded I a0 a1 a2 a3 a5 a6 a7 a8) (H : I.Finite) (a4 : FVec Ideal S512x512 .f32) (t n : Fin 512) :
    out0_9 (F := Ideal) a0 a1 a2 a3 a4 a5 a6 a7 a8 (ix3 0 t n)
      = ∑ c : Fin 512, I.out ⟨(c : ℕ) / 32, by omega⟩ t ⟨(c : ℕ) % 32, by omega⟩ * a4 (ix2 c n) := by
  have hc : ∀ c : Fin 512, c = col ⟨(c : ℕ) / 32, by omega⟩ ⟨(c : ℕ) % 32, by omega⟩ := fun c =>
    Fin.ext (by simp only [col]; omega)
  rw [out_eq]
  pointwise [k0_pay3]
  refine Finset.sum_congr rfl fun c _ => ?_
  rw [← heads_eq L H, ← hc]

end Cert.KernelIdeal.Heads

end
-- ==== Proof.Given.lean ====
module

public import Idealize.ShloMosaic.Lib.Claim
public import Idealize.ShloMosaic.Lib.Pointwise
public import proofs.«01_k».proof.Proof.Gen.KernelIdeal
public import proofs.«01_k».proof.Proof.Middle

@[expose] public section

/-! # The arguments of both programs as inputs of the formula -/

noncomputable section

namespace Cert.KernelIdeal.Host

open Idealize.ShloMosaic
open Cert.KernelIdeal Cert.Maths

/-- Batch entry `b` and the weights. -/
def inputs (x : FVec Ideal S8x512x512 .f32) (wq wk wv : FVec Ideal S512x512 .f32) (wkm : FVec Ideal S1024x32 .f32)
    (bkm : FVec Ideal S32 .f32) (wvm : FVec Ideal S1024x32 .f32) (bvm : FVec Ideal S32 .f32) (b : Fin 8) : Inputs where
  x := fun t f => x (ix3 b t f)
  wq := fun f c => wq (ix2 f c)
  wk := fun f c => wk (ix2 f c)
  wv := fun f c => wv (ix2 f c)
  wkm := fun f c => wkm (ix2 f c)
  bkm := fun d => bkm (ix1 d)
  wvm := fun f c => wvm (ix2 f c)
  bvm := fun d => bvm (ix1 d)

end Cert.KernelIdeal.Host

end
-- ==== Proof.Windows.lean ====
module

public import Idealize.ShloMosaic.Lib.Claim
public import Idealize.ShloMosaic.Lib.Pipeline.ValueKit
public import proofs.«01_k».proof.Proof.Entry
public import proofs.«01_k».proof.Proof.TablesAt
public import proofs.«01_k».proof.Proof.BlockAt
public import proofs.«01_k».proof.Proof.Given

@[expose] public section

/-! # What a grid point reads: its batch entry, and the whole of every other array -/

set_option maxRecDepth 16384

noncomputable section

namespace Cert.KernelIdeal.Host

open Idealize.ShloMosaic Idealize.ShloMosaic.TcCoe Idealize.SL.Sem
open Cert.KernelIdeal Cert.KernelIdeal.Gen Cert.Maths

variable (m : (ℓ : Loc nD τ sig) → Buf (Elt Ideal) ℓ) (c : Dev nD)

/-- Every window's block index. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0, 0] :=
  (by decide +kernel : ∀ t : Fin grid0.N, _)

theorem iblk0 (t : Fin cfg0.N) (r f : Fin 512) :
    (iblk m c 0 t : FVec Ideal S1x512x512 .f32) (ix3 0 r f)
      = (m ((c : Thread nD τ).loc main_arg0) : FVec Ideal S8x512x512 .f32) (ix3 (⟨t.val, t.isLt⟩ : Fin 8) r f) := by
  refine Eq.trans (b := (V m c main_arg0 : FVec Ideal S8x512x512 .f32) (ix3 (⟨t.val, t.isLt⟩ : Fin 8) r f)) ?_
    (congrFun (V_main_arg0 m c) _)
  blk_ext [iblk, idx t]

theorem iblk1 (t : Fin cfg0.N) : (iblk m c 1 t : FVec Ideal S512x1536 .f32) = V m c main_v117 := by
  funext y; blk_ext [iblk, idx t]

theorem iblk2 (t : Fin cfg0.N) : (iblk m c 2 t : FVec Ideal S1024x64 .f32) = V m c main_v116 := by
  funext y; blk_ext [iblk, idx t]

theorem iblk3 (t : Fin cfg0.N) : (iblk m c 3 t : FVec Ideal S1x1024 .f32) = V m c main_v122 := by
  funext y; blk_ext [iblk, idx t]

theorem iblk4 (t : Fin cfg0.N) : (iblk m c 4 t : FVec Ideal S512x512 .f32) = V m c main_arg8 := by
  funext y; blk_ext [iblk, idx t]

theorem iblk5 (t : Fin cfg0.N) : (iblk m c 5 t : FVec Ideal S640x512 .f32) = V m c main_v107 := by
  funext y; blk_ext [iblk, idx t]

theorem iblk6 (t : Fin cfg0.N) : (iblk m c 6 t : FVec Ideal S512x127 .f32) = V m c main_v115 := by
  funext y; blk_ext [iblk, idx t]

theorem iblk7 (t : Fin cfg0.N) : (iblk m c 7 t : FVec Ideal S64x2048 .f32) = V m c main_v93 := by
  funext y; blk_ext [iblk, idx t]

theorem iblk8 (t : Fin cfg0.N) : (iblk m c 8 t : FVec Ideal S64x2048 .f32) = V m c main_v105 := by
  funext y; blk_ext [iblk, idx t]

/-- The arguments of launch memory, as inputs. -/
abbrev given (b : Fin 8) : Inputs :=
  inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b

theorem features_at (X Y : FVec Ideal S1024x32 .f32) (f : Fin 1024) (d : Fin 32) :
    concatenate S1024x64 1 [⟨S1024x32, X⟩, ⟨S1024x32, Y⟩] concatenates_S1024x32_S1024x32_S1024x64_d1 (ix2 f ⟨d, by omega⟩)
      = X (ix2 f d)
    ∧ concatenate S1024x64 1 [⟨S1024x32, X⟩, ⟨S1024x32, Y⟩] concatenates_S1024x32_S1024x32_S1024x64_d1 (ix2 f ⟨32 + d, by omega⟩)
      = Y (ix2 f d) := by
  constructor <;> pointwise

theorem projections_at (X Y Z : FVec Ideal S512x512 .f32) (f d : Fin 512) :
    concatenate S512x1536 1 [⟨S512x512, X⟩, ⟨S512x512, Y⟩, ⟨S512x512, Z⟩] concatenates_S512x512_S512x512_S512x512_S512x1536_d1 (ix2 f ⟨d, by omega⟩)
      = X (ix2 f d)
    ∧ concatenate S512x1536 1 [⟨S512x512, X⟩, ⟨S512x512, Y⟩, ⟨S512x512, Z⟩] concatenates_S512x512_S512x512_S512x512_S512x1536_d1 (ix2 f ⟨512 + d, by omega⟩)
      = Y (ix2 f d)
    ∧ concatenate S512x1536 1 [⟨S512x512, X⟩, ⟨S512x512, Y⟩, ⟨S512x512, Z⟩] concatenates_S512x512_S512x512_S512x512_S512x1536_d1 (ix2 f ⟨1024 + d, by omega⟩)
      = Z (ix2 f d) := by
  refine ⟨?_, ?_, ?_⟩
  · pointwise
  · pointwise
  · pointwise
    refine (dif_neg (by omega)).trans ((dif_neg (by omega)).trans (congrArg Z ?_))
    congr 2
    omega

/-- The row of biases: both, for every head. -/
def biasRow (X Y : FVec Ideal S32 .f32) : FVec Ideal S1x1024 .f32 :=
  broadcastInDim S1x1024 ![1] bcast_S1024_S1x1024_1
        (shapeCast S1024 (broadcastInDim S16x64 ![0, 1] bcast_S1x64_S16x64_0_1
          (shapeCast S1x64 (concatenate S64 0 [⟨S32, X⟩, ⟨S32, Y⟩]
            concatenates_S32_S32_S64_d0) shapeCasts_S64_S1x64)) shapeCasts_S16x64_S1024)

theorem biases_at (X Y : FVec Ideal S32 .f32) (h : Fin 16) (d : Fin 32) :
    biasRow X Y (ix2 0 ⟨64 * h + d, by omega⟩) = X (ix1 d) ∧ biasRow X Y (ix2 0 ⟨64 * h + 32 + d, by omega⟩) = Y (ix1 d) := by
  constructor
  · pointwise [biasRow]
    refine (dif_pos (by omega)).trans (congrArg X (congrArg ix1 (Fin.ext ?_)))
    dsimp only
    omega
  · pointwise [biasRow]
    refine (dif_neg (by omega)).trans (congrArg Y (congrArg ix1 (Fin.ext ?_)))
    dsimp only
    omega

theorem loaded (t : Fin cfg0.N) :
    Heads.Loaded (given m c ⟨t.val, t.isLt⟩) (iblk m c 0 t) (iblk m c 1 t) (iblk m c 2 t) (iblk m c 3 t) (iblk m c 5 t)
      (iblk m c 6 t) (iblk m c 7 t) (iblk m c 8 t) := by
  rw [iblk1, iblk2, iblk3, iblk5, iblk6, iblk7, iblk8, spread_eq, tile_eq, sumRows_eq, maskRows_eq, features_eq,
    projections_eq, biases_eq]
  exact
    { x := iblk0 m c t
      wq := fun f d => (projections_at _ _ _ f d).1
      wk := fun f d => (projections_at _ _ _ f d).2.1
      wv := fun f d => (projections_at _ _ _ f d).2.2
      wkm := fun f d => (features_at _ _ f d).1
      wvm := fun f d => (features_at _ _ f d).2
      bkm := fun h d => (biases_at _ _ h d).1
      bvm := fun h d => (biases_at _ _ h d).2
      tail := sumRows_tail
      set := sumRows_set
      mask := maskRows_at
      spread := spread_at
      tile := tile_at }

theorem point (H : ∀ b, (given m c b).Finite) (t : Fin cfg0.N) (r n : Fin 512) :
    out0_9 (iblk m c 0 t) (iblk m c 1 t) (iblk m c 2 t) (iblk m c 3 t) (iblk m c 4 t) (iblk m c 5 t) (iblk m c 6 t)
      (iblk m c 7 t) (iblk m c 8 t) (ix3 0 r n)
      = ∑ k : Fin 512, (given m c ⟨t.val, t.isLt⟩).out ⟨(k : ℕ) / 32, by omega⟩ r ⟨(k : ℕ) % 32, by omega⟩
          * (m ((c : Thread nD τ).loc main_arg8) : FVec Ideal S512x512 .f32) (ix2 k n) := by
  rw [iblk4, V_main_arg8]
  exact Heads.out_at (loaded m c t) (H _) _ r n

/-- The result array: the formula of each batch entry times the output weights. -/
theorem final (H : ∀ b, (given m c b).Finite) (b : Fin 8) (t n : Fin 512) :
    ((dats m 0 c).arrAt 9 cfg0.N : FVec Ideal S8x512x512 .f32) (ix3 b t n)
      = ∑ k : Fin 512, (given m c b).out ⟨(k : ℕ) / 32, by omega⟩ t ⟨(k : ℕ) % 32, by omega⟩
          * (m ((c : Thread nD τ).loc main_arg8) : FVec Ideal S512x512 .f32) (ix2 k n) := by
  have key : ((dats m 0 c).arrAt 9 cfg0.N : FVec Ideal S8x512x512 .f32)
      = fun i => ∑ k : Fin 512, (given m c (i 0)).out ⟨(k : ℕ) / 32, by omega⟩ (i 1) ⟨(k : ℕ) % 32, by omega⟩
          * (m ((c : Thread nD τ).loc main_arg8) : FVec Ideal S512x512 .f32) (ix2 k (i 2)) := by
    refine (dats m 0 c).arrAt_eq_of_covers 9 _ (by decide +kernel) fun t hf y => ?_
    blk_simp
    rw [after0_9]
    obtain ⟨r, n, rfl⟩ : ∃ r n : Fin 512, y = (ix3 0 r n : S1x512x512.Idx) :=
      ⟨y 1, y 2, by funext a; fin_cases a <;> first | rfl | exact Subsingleton.elim (α := Fin 1) _ _⟩
    have e : (win0_9.blk t).view.emb (ix3 0 r n : S1x512x512.Idx) = (ix3 (⟨t.val, t.isLt⟩ : Fin 8) r n : S8x512x512.Idx) := by
      blk_ext [idx t]
    rw [e]
    exact point m c H t r n
  rw [key]
  rfl

end Cert.KernelIdeal.Host

end
-- ==== Proof.RefHeads.lean ====
module

public import Idealize.ShloMosaic.Lib.Claim
public import Idealize.ShloMosaic.Lib.Pointwise
public import proofs.«01_k».proof.Proof.Gen.ReferenceIdeal.Read
public import proofs.«01_k».proof.Proof.Middle

@[expose] public section

/-! # The reference's queries, keys and values -/

set_option maxRecDepth 16384

noncomputable section

namespace Cert.ReferenceIdeal.At

open Idealize.ShloMosaic
open Cert.ReferenceIdeal Cert.ReferenceIdeal.Gen Cert.ReferenceIdeal.Read Cert.Maths

/-- The arguments hold batch entry `b` and the weights of the formula. -/
structure Reads (x0 : FVec Ideal S8x512x512 .f32) (x1 x2 x3 : FVec Ideal S512x512 .f32) (x4 : FVec Ideal S1024x32 .f32)
    (x5 : FVec Ideal S32 .f32) (x6 : FVec Ideal S1024x32 .f32) (x7 : FVec Ideal S32 .f32) (b : Fin 8) (I : Inputs) : Prop where
  x : ∀ t f, x0 (ix3 b t f) = I.x t f
  wq : ∀ f c, x1 (ix2 f c) = I.wq f c
  wk : ∀ f c, x2 (ix2 f c) = I.wk f c
  wv : ∀ f c, x3 (ix2 f c) = I.wv f c
  wkm : ∀ f c, x4 (ix2 f c) = I.wkm f c
  bkm : ∀ d, x5 (ix1 d) = I.bkm d
  wvm : ∀ f c, x6 (ix2 f c) = I.wvm f c
  bvm : ∀ d, x7 (ix1 d) = I.bvm d

variable {x0 : FVec Ideal S8x512x512 .f32} {x1 x2 x3 : FVec Ideal S512x512 .f32} {x4 : FVec Ideal S1024x32 .f32}
  {x5 : FVec Ideal S32 .f32} {x6 : FVec Ideal S1024x32 .f32} {x7 : FVec Ideal S32 .f32} {b : Fin 8} {I : Inputs}
  (R : Reads x0 x1 x2 x3 x4 x5 x6 x7 b I)
include R

omit R in
theorem col_eq (h : Fin 16) (d : Fin 32) (p) : (⟨(h : ℕ) * 32 + d, p⟩ : Fin 512) = col h d :=
  Fin.ext (by simp [col, mul_comm])

theorem v_at (t : Fin 512) (h : Fin 16) (d : Fin 32) :
    val_main_v5 (F := Ideal) x0 x3 (ix4 b t h d) = I.v t (col h d) := by
  pointwise [val_main_v5, val_main_v4]
  refine Finset.sum_congr rfl fun f _ => ?_
  rw [R.x, R.wv, col_eq]

theorem q_at (t : Fin 512) (h : Fin 16) (d : Fin 32) :
    val_main_v8 (F := Ideal) x0 x1 (ix4 b t h d) = I.q t (col h d) := by
  have e : val_main_v1 (F := Ideal) x0 x1 (ix4 b t h d) = ∑ f, I.x t f * I.wq f (col h d) := by
    pointwise [val_main_v1, val_main_v0]
    refine Finset.sum_congr rfl fun f _ => ?_
    rw [R.x, R.wq, col_eq]
  have z : id (constant (F := Ideal) S_ FTy.f32 0#32) ix0 = 0 := by
    change constant (F := Ideal) S_ FTy.f32 0#32 ix0 = 0
    pointwise
  pointwise [val_main_v8, val_main_v6, val_main_v7, val_main_cst, val_main_call0_v0, val_main_call0_v1, val_main_call0_v2, val_main_call0_v3, val_main_call0_v4, val_main_call0_v5, val_main_call0_v6, val_main_call0_v7, val_main_call0_cst, val_main_call0_cst_0, val_main_call0_cst_1, val_main_call0_cst_2, val_main_call0_call0_v0, val_main_call0_call0_v1]
  rw [z, e]
  exact elu_eq_phi _

theorem k_at (t : Fin 512) (h : Fin 16) (d : Fin 32) :
    val_main_v11 (F := Ideal) x0 x2 (ix4 b t h d) = I.k t (col h d) := by
  have e : val_main_v3 (F := Ideal) x0 x2 (ix4 b t h d) = ∑ f, I.x t f * I.wk f (col h d) := by
    pointwise [val_main_v3, val_main_v2]
    refine Finset.sum_congr rfl fun f _ => ?_
    rw [R.x, R.wk, col_eq]
  have z : id (constant (F := Ideal) S_ FTy.f32 0#32) ix0 = 0 := by
    change constant (F := Ideal) S_ FTy.f32 0#32 ix0 = 0
    pointwise
  pointwise [val_main_v11, val_main_v9, val_main_v10, val_main_cst_0, val_main_call1_v0, val_main_call1_v1, val_main_call1_v2, val_main_call1_v3, val_main_call1_v4, val_main_call1_v5, val_main_call1_v6, val_main_call1_v7, val_main_call1_cst, val_main_call1_cst_0, val_main_call1_cst_1, val_main_call1_cst_2, val_main_call1_call0_v0, val_main_call1_call0_v1]
  rw [z, e]
  exact elu_eq_phi _

end Cert.ReferenceIdeal.At

end
-- ==== Proof.RefLevels.lean ====
module

public import proofs.«01_k».proof.Proof.RefHeads

@[expose] public section

/-! # The reference's features of the sets, level by level -/

set_option maxRecDepth 16384

noncomputable section

namespace Cert.ReferenceIdeal.At

open Idealize.ShloMosaic
open Cert.ReferenceIdeal Cert.ReferenceIdeal.Gen Cert.ReferenceIdeal.Read Cert.Maths

variable {x0 : FVec Ideal S8x512x512 .f32} {x1 x2 x3 : FVec Ideal S512x512 .f32} {x4 : FVec Ideal S1024x32 .f32}
  {x5 : FVec Ideal S32 .f32} {x6 : FVec Ideal S1024x32 .f32} {x7 : FVec Ideal S32 .f32} {b : Fin 8} {I : Inputs}
  (R : Reads x0 x1 x2 x3 x4 x5 x6 x7 b I)
include R

/-- The sets of 8 positions. -/
theorem feat64_at (n : Fin 64) (h : Fin 16) (f : Fin 1024) :
    val_main_v15 (F := Ideal) x0 x2 x3 (ix4 b n h f)
      = ∑ t : Fin 512, if (t : ℕ) / 8 = n then I.feat h t f else 0 := by
  rw [sum_block (L := 8) n (by omega) (by omega)]
  pointwise [val_main_v15, val_main_v14, val_main_v13, val_main_v12]
  refine Finset.sum_congr rfl fun l _ => ?_
  rw [k_at R, v_at R]
  rfl

/-- The sets of 16 positions. -/
theorem feat32_at (n : Fin 32) (h : Fin 16) (f : Fin 1024) :
    val_main_v24 (F := Ideal) x0 x2 x3 (ix4 b n h f)
      = ∑ t : Fin 512, if (t : ℕ) / 16 = n then I.feat h t f else 0 := by
  rw [sum_block (L := 16) n (by omega) (by omega)]
  pointwise [val_main_v24, val_main_v23, val_main_v22, val_main_v21]
  refine Finset.sum_congr rfl fun l _ => ?_
  rw [k_at R, v_at R]
  rfl

/-- The sets of 32 positions. -/
theorem feat16_at (n : Fin 16) (h : Fin 16) (f : Fin 1024) :
    val_main_v33 (F := Ideal) x0 x2 x3 (ix4 b n h f)
      = ∑ t : Fin 512, if (t : ℕ) / 32 = n then I.feat h t f else 0 := by
  rw [sum_block (L := 32) n (by omega) (by omega)]
  pointwise [val_main_v33, val_main_v32, val_main_v31, val_main_v30]
  refine Finset.sum_congr rfl fun l _ => ?_
  rw [k_at R, v_at R]
  rfl

/-- The sets of 64 positions. -/
theorem feat8_at (n : Fin 8) (h : Fin 16) (f : Fin 1024) :
    val_main_v42 (F := Ideal) x0 x2 x3 (ix4 b n h f)
      = ∑ t : Fin 512, if (t : ℕ) / 64 = n then I.feat h t f else 0 := by
  rw [sum_block (L := 64) n (by omega) (by omega)]
  pointwise [val_main_v42, val_main_v41, val_main_v40, val_main_v39]
  refine Finset.sum_congr rfl fun l _ => ?_
  rw [k_at R, v_at R]
  rfl

/-- The sets of 128 positions. -/
theorem feat4_at (n : Fin 4) (h : Fin 16) (f : Fin 1024) :
    val_main_v51 (F := Ideal) x0 x2 x3 (ix4 b n h f)
      = ∑ t : Fin 512, if (t : ℕ) / 128 = n then I.feat h t f else 0 := by
  rw [sum_block (L := 128) n (by omega) (by omega)]
  pointwise [val_main_v51, val_main_v50, val_main_v49, val_main_v48]
  refine Finset.sum_congr rfl fun l _ => ?_
  rw [k_at R, v_at R]
  rfl

/-- The sets of 256 positions. -/
theorem feat2_at (n : Fin 2) (h : Fin 16) (f : Fin 1024) :
    val_main_v60 (F := Ideal) x0 x2 x3 (ix4 b n h f)
      = ∑ t : Fin 512, if (t : ℕ) / 256 = n then I.feat h t f else 0 := by
  rw [sum_block (L := 256) n (by omega) (by omega)]
  pointwise [val_main_v60, val_main_v59, val_main_v58, val_main_v57]
  refine Finset.sum_congr rfl fun l _ => ?_
  rw [k_at R, v_at R]
  rfl

/-- The sets of 512 positions. -/
theorem feat1_at (n : Fin 1) (h : Fin 16) (f : Fin 1024) :
    val_main_v69 (F := Ideal) x0 x2 x3 (ix4 b n h f)
      = ∑ t : Fin 512, if (t : ℕ) / 512 = n then I.feat h t f else 0 := by
  rw [sum_block (L := 512) n (by omega) (by omega)]
  pointwise [val_main_v69, val_main_v68, val_main_v67, val_main_v66]
  refine Finset.sum_congr rfl fun l _ => ?_
  rw [k_at R, v_at R]
  rfl

omit R in
theorem row_of (s : ℕ) (h : Fin 16) (f : Fin 1024) (L N : ℕ) (e : len s = L ∧ num s = N) :
    (∑ t : Fin 512, if (t : ℕ) / L = N then I.feat h t f else 0) = ∑ t : Fin 512, if inSet s t then I.feat h t f else 0 := by
  unfold inSet; rw [e.1, e.2]

theorem part64_at (s : Fin 127) (hs : 0 ≤ (s : ℕ) ∧ (s : ℕ) < 64) (i : Fin 64) (hi : (i : ℕ) = s - 0) (h : Fin 16) (f : Fin 1024) :
    val_main_v15 (F := Ideal) x0 x2 x3 (ix4 b i h f) = ∑ t : Fin 512, if inSet s t then I.feat h t f else 0 :=
  (feat64_at R i h f).trans (row_of s h f 8 i (len_num _ _ _ (by omega)))

theorem part32_at (s : Fin 127) (hs : 64 ≤ (s : ℕ) ∧ (s : ℕ) < 96) (i : Fin 32) (hi : (i : ℕ) = s - 64) (h : Fin 16) (f : Fin 1024) :
    val_main_v24 (F := Ideal) x0 x2 x3 (ix4 b i h f) = ∑ t : Fin 512, if inSet s t then I.feat h t f else 0 :=
  (feat32_at R i h f).trans (row_of s h f 16 i (len_num _ _ _ (by omega)))

theorem part16_at (s : Fin 127) (hs : 96 ≤ (s : ℕ) ∧ (s : ℕ) < 112) (i : Fin 16) (hi : (i : ℕ) = s - 96) (h : Fin 16) (f : Fin 1024) :
    val_main_v33 (F := Ideal) x0 x2 x3 (ix4 b i h f) = ∑ t : Fin 512, if inSet s t then I.feat h t f else 0 :=
  (feat16_at R i h f).trans (row_of s h f 32 i (len_num _ _ _ (by omega)))

theorem part8_at (s : Fin 127) (hs : 112 ≤ (s : ℕ) ∧ (s : ℕ) < 120) (i : Fin 8) (hi : (i : ℕ) = s - 112) (h : Fin 16) (f : Fin 1024) :
    val_main_v42 (F := Ideal) x0 x2 x3 (ix4 b i h f) = ∑ t : Fin 512, if inSet s t then I.feat h t f else 0 :=
  (feat8_at R i h f).trans (row_of s h f 64 i (len_num _ _ _ (by omega)))

theorem part4_at (s : Fin 127) (hs : 120 ≤ (s : ℕ) ∧ (s : ℕ) < 124) (i : Fin 4) (hi : (i : ℕ) = s - 120) (h : Fin 16) (f : Fin 1024) :
    val_main_v51 (F := Ideal) x0 x2 x3 (ix4 b i h f) = ∑ t : Fin 512, if inSet s t then I.feat h t f else 0 :=
  (feat4_at R i h f).trans (row_of s h f 128 i (len_num _ _ _ (by omega)))

theorem part2_at (s : Fin 127) (hs : 124 ≤ (s : ℕ) ∧ (s : ℕ) < 126) (i : Fin 2) (hi : (i : ℕ) = s - 124) (h : Fin 16) (f : Fin 1024) :
    val_main_v60 (F := Ideal) x0 x2 x3 (ix4 b i h f) = ∑ t : Fin 512, if inSet s t then I.feat h t f else 0 :=
  (feat2_at R i h f).trans (row_of s h f 256 i (len_num _ _ _ (by omega)))

theorem part1_at (s : Fin 127) (hs : 126 ≤ (s : ℕ) ∧ (s : ℕ) < 127) (i : Fin 1) (hi : (i : ℕ) = s - 126) (h : Fin 16) (f : Fin 1024) :
    val_main_v69 (F := Ideal) x0 x2 x3 (ix4 b i h f) = ∑ t : Fin 512, if inSet s t then I.feat h t f else 0 :=
  (feat1_at R i h f).trans (row_of s h f 512 i (len_num _ _ _ (by omega)))

/-- All the sets. -/
theorem feat_at (s : Fin 127) (h : Fin 16) (f : Fin 1024) :
    val_main_v75 (F := Ideal) x0 x2 x3 (ix4 b s h f) = ∑ t : Fin 512, if inSet s t then I.feat h t f else 0 := by
  pointwise [val_main_v75]
  by_cases h64 : (s : ℕ) < 64
  · exact (dif_pos h64).trans (part64_at R s (by omega) _ (by dsimp only; try omega) h f)
  refine (dif_neg h64).trans ?_
  by_cases h32 : (s : ℕ) - 64 < 32
  · exact (dif_pos h32).trans (part32_at R s (by omega) _ (by dsimp only; try omega) h f)
  refine (dif_neg h32).trans ?_
  by_cases h16 : (s : ℕ) - 64 - 32 < 16
  · exact (dif_pos h16).trans (part16_at R s (by omega) _ (by dsimp only; try omega) h f)
  refine (dif_neg h16).trans ?_
  by_cases h8 : (s : ℕ) - 64 - 32 - 16 < 8
  · exact (dif_pos h8).trans (part8_at R s (by omega) _ (by dsimp only; try omega) h f)
  refine (dif_neg h8).trans ?_
  by_cases h4 : (s : ℕ) - 64 - 32 - 16 - 8 < 4
  · exact (dif_pos h4).trans (part4_at R s (by omega) _ (by dsimp only; try omega) h f)
  refine (dif_neg h4).trans ?_
  by_cases h2 : (s : ℕ) - 64 - 32 - 16 - 8 - 4 < 2
  · exact (dif_pos h2).trans (part2_at R s (by omega) _ (by dsimp only; try omega) h f)
  refine (dif_neg h2).trans ?_
  exact part1_at R s (by omega) _ (by dsimp only; try omega) h f

end Cert.ReferenceIdeal.At

end
-- ==== Proof.RefMask.lean ====
module

public import proofs.«01_k».proof.Proof.RefHeads
public import proofs.«01_k».proof.Proof.Words

@[expose] public section

/-! # Which sets a position reads, in the reference -/

set_option maxRecDepth 16384

noncomputable section

namespace Cert.ReferenceIdeal.At

open Idealize.ShloMosaic
open Cert.ReferenceIdeal Cert.ReferenceIdeal.Gen Cert.ReferenceIdeal.Read Cert.Maths

open Cert.Words (endWord end_of)

theorem ends64_at (s : Fin 127) (hs : 0 ≤ (s : ℕ) ∧ (s : ℕ) < 64) (i : Fin 64) (hi : (i : ℕ) = s - 0) :
    val_main_v20 (F := Ideal) (ix1 i) = endWord s := by
  refine Eq.trans ?_ (end_of s 8 i (len_num _ _ _ (by omega)))
  pointwise [val_main_v20, val_main_v19, val_main_v18, val_main_v17, val_main_v16, val_main_c_1, val_main_c]
  rw [Words.add1, Words.mul]

theorem ends32_at (s : Fin 127) (hs : 64 ≤ (s : ℕ) ∧ (s : ℕ) < 96) (i : Fin 32) (hi : (i : ℕ) = s - 64) :
    val_main_v29 (F := Ideal) (ix1 i) = endWord s := by
  refine Eq.trans ?_ (end_of s 16 i (len_num _ _ _ (by omega)))
  pointwise [val_main_v29, val_main_v28, val_main_v27, val_main_v26, val_main_v25, val_main_c_3, val_main_c_2]
  rw [Words.add1, Words.mul]

theorem ends16_at (s : Fin 127) (hs : 96 ≤ (s : ℕ) ∧ (s : ℕ) < 112) (i : Fin 16) (hi : (i : ℕ) = s - 96) :
    val_main_v38 (F := Ideal) (ix1 i) = endWord s := by
  refine Eq.trans ?_ (end_of s 32 i (len_num _ _ _ (by omega)))
  pointwise [val_main_v38, val_main_v37, val_main_v36, val_main_v35, val_main_v34, val_main_c_5, val_main_c_4]
  rw [Words.add1, Words.mul]

theorem ends8_at (s : Fin 127) (hs : 112 ≤ (s : ℕ) ∧ (s : ℕ) < 120) (i : Fin 8) (hi : (i : ℕ) = s - 112) :
    val_main_v47 (F := Ideal) (ix1 i) = endWord s := by
  refine Eq.trans ?_ (end_of s 64 i (len_num _ _ _ (by omega)))
  pointwise [val_main_v47, val_main_v46, val_main_v45, val_main_v44, val_main_v43, val_main_c_7, val_main_c_6]
  rw [Words.add1, Words.mul]

theorem ends4_at (s : Fin 127) (hs : 120 ≤ (s : ℕ) ∧ (s : ℕ) < 124) (i : Fin 4) (hi : (i : ℕ) = s - 120) :
    val_main_v56 (F := Ideal) (ix1 i) = endWord s := by
  refine Eq.trans ?_ (end_of s 128 i (len_num _ _ _ (by omega)))
  pointwise [val_main_v56, val_main_v55, val_main_v54, val_main_v53, val_main_v52, val_main_c_9, val_main_c_8]
  rw [Words.add1, Words.mul]

theorem ends2_at (s : Fin 127) (hs : 124 ≤ (s : ℕ) ∧ (s : ℕ) < 126) (i : Fin 2) (hi : (i : ℕ) = s - 124) :
    val_main_v65 (F := Ideal) (ix1 i) = endWord s := by
  refine Eq.trans ?_ (end_of s 256 i (len_num _ _ _ (by omega)))
  pointwise [val_main_v65, val_main_v64, val_main_v63, val_main_v62, val_main_v61, val_main_c_11, val_main_c_10]
  rw [Words.add1, Words.mul]

theorem ends1_at (s : Fin 127) (hs : 126 ≤ (s : ℕ) ∧ (s : ℕ) < 127) (i : Fin 1) (hi : (i : ℕ) = s - 126) :
    val_main_v74 (F := Ideal) (ix1 i) = endWord s := by
  refine Eq.trans ?_ (end_of s 512 i (len_num _ _ _ (by omega)))
  pointwise [val_main_v74, val_main_v73, val_main_v72, val_main_v71, val_main_v70, val_main_c_13, val_main_c_12]
  rfl

/-- Where every set ends. -/
theorem ends_at (s : Fin 127) : val_main_v84 (F := Ideal) (ix1 s) = endWord s := by
  pointwise [val_main_v84]
  by_cases h64 : (s : ℕ) < 64
  · exact (dif_pos h64).trans (ends64_at s (by omega) _ (by dsimp only; try omega))
  refine (dif_neg h64).trans ?_
  by_cases h32 : (s : ℕ) - 64 < 32
  · exact (dif_pos h32).trans (ends32_at s (by omega) _ (by dsimp only; try omega))
  refine (dif_neg h32).trans ?_
  by_cases h16 : (s : ℕ) - 64 - 32 < 16
  · exact (dif_pos h16).trans (ends16_at s (by omega) _ (by dsimp only; try omega))
  refine (dif_neg h16).trans ?_
  by_cases h8 : (s : ℕ) - 64 - 32 - 16 < 8
  · exact (dif_pos h8).trans (ends8_at s (by omega) _ (by dsimp only; try omega))
  refine (dif_neg h8).trans ?_
  by_cases h4 : (s : ℕ) - 64 - 32 - 16 - 8 < 4
  · exact (dif_pos h4).trans (ends4_at s (by omega) _ (by dsimp only; try omega))
  refine (dif_neg h4).trans ?_
  by_cases h2 : (s : ℕ) - 64 - 32 - 16 - 8 - 4 < 2
  · exact (dif_pos h2).trans (ends2_at s (by omega) _ (by dsimp only; try omega))
  refine (dif_neg h2).trans ?_
  exact ends1_at s (by omega) _ (by dsimp only; try omega)

theorem floor_all : ∀ r : Fin 512,
    IntOp.muli
      (Scalar.select
        (IntOp.andi
          (IntOp.cmpi CmpIPredicate.ne
            (if BitVec.ofNat 32 ↑r = 0 then (0 : BitVec 32) else if (BitVec.ofNat 32 ↑r).msb = true then -1 else 1)
            (if 8#32 = 0 then (0 : BitVec 32) else if BitVec.msb 8#32 = true then -1 else 1))
          (IntOp.cmpi CmpIPredicate.ne (IntOp.remsi ArithUnit.host (BitVec.ofNat 32 ↑r) 8#32) 0#32))
        (IntOp.subi (IntOp.divsi ArithUnit.host (BitVec.ofNat 32 ↑r) 8#32) 1#32)
        (IntOp.divsi ArithUnit.host (BitVec.ofNat 32 ↑r) 8#32))
      8#32 = BitVec.ofNat 32 ((r : ℕ) / 8 * 8) := by
  decide +kernel

/-- Where the block of a position begins. -/
theorem begin_at (r : Fin 512) : val_main_v88 (F := Ideal) (ix1 r) = BitVec.ofNat 32 (r / 8 * 8) := by
  pointwise [val_main_v88, val_main_v87, val_main_v86, val_main_v85, val_main_c_14, val_main_c_15, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_c, val_main_call2_c_0]
  have e : id (constantI S_ 32 8#32) ix0 = 8#32 := rfl
  rw [e]
  exact floor_all r

/-- Which sets a position reads. -/
theorem mask_at (r : Fin 512) (s : Fin 127) : val_main_v93 (F := Ideal) (ix2 r s) = 1#1 ↔ visible r s := by
  pointwise [val_main_v93, val_main_v92, val_main_v91, val_main_v90, val_main_v89]
  rw [ends_at, begin_at]
  have hb : (num s + 1) * len s ≤ 512 := by
    unfold len num; split_ifs <;> omega
  rw [endWord, Words.sle_iff _ _ (by omega) (by omega)]

end Cert.ReferenceIdeal.At

end
-- ==== Proof.RefScores.lean ====
module

public import proofs.«01_k».proof.Proof.RefLevels
public import proofs.«01_k».proof.Proof.RefMask

@[expose] public section

/-! # The reference's logits -/

set_option maxRecDepth 16384

noncomputable section

namespace Cert.ReferenceIdeal.At

open Idealize.ShloMosaic
open Cert.ReferenceIdeal Cert.ReferenceIdeal.Gen Cert.ReferenceIdeal.Read Cert.Maths

variable {x0 : FVec Ideal S8x512x512 .f32} {x1 x2 x3 : FVec Ideal S512x512 .f32} {x4 : FVec Ideal S1024x32 .f32}
  {x5 : FVec Ideal S32 .f32} {x6 : FVec Ideal S1024x32 .f32} {x7 : FVec Ideal S32 .f32} {b : Fin 8} {I : Inputs}
  (R : Reads x0 x1 x2 x3 x4 x5 x6 x7 b I)
include R

/-- The sets' keys -/
theorem key_at (s : Fin 127) (h : Fin 16) (d : Fin 32) :
    val_main_v79 (F := Ideal) x0 x2 x3 x4 x5 (ix4 b s h d) = I.summary I.wkm I.bkm h (inSet s) d := by
  pointwise [val_main_v79, val_main_v78, val_main_v77, val_main_v76]
  unfold Inputs.summary
  rw [R.bkm]
  refine congrArg (· + _) (Finset.sum_congr rfl fun f _ => ?_)
  rw [feat_at R, R.wkm]

/-- and values. -/
theorem value_at (s : Fin 127) (h : Fin 16) (d : Fin 32) :
    val_main_v83 (F := Ideal) x0 x2 x3 x6 x7 (ix4 b s h d) = I.summary I.wvm I.bvm h (inSet s) d := by
  pointwise [val_main_v83, val_main_v82, val_main_v81, val_main_v80]
  unfold Inputs.summary
  rw [R.bvm]
  refine congrArg (· + _) (Finset.sum_congr rfl fun f _ => ?_)
  rw [feat_at R, R.wvm]

omit R in
theorem thirtytwo : Ideal.ofBits .f32 0x42000000#32 = ((32 : ℝ) : EReal) := by
  simp [Ideal.ofBits, Ideal.ieee, -EReal.coe_mul, -EReal.coe_neg]; norm_num

/-- The logits. -/
theorem logit_at (h : Fin 16) (r : Fin 512) (s : Fin 127) :
    val_main_v99 (F := Ideal) x0 x1 x2 x3 x4 x5 (ix4 b h r s) = I.logit h r s := by
  have e : val_main_v94 (F := Ideal) x0 x1 x2 x3 x4 x5 (ix4 b h r s)
      = ∑ d, I.q r (col h d) * I.summary I.wkm I.bkm h (inSet s) d := by
    pointwise [val_main_v94]
    refine Finset.sum_congr rfl fun d _ => ?_
    rw [q_at R, key_at R]
  pointwise [val_main_v99, val_main_v98, val_main_v97, val_main_v96, val_main_v95, val_main_cst_16, val_main_cst_17, val_main_call3_v0, val_main_call3_v1, val_main_call3_v2]
  have z : id (constant (F := Ideal) S_ FTy.f32 4286578688#32) ix0 = ⊥ := rfl
  rw [thirtytwo, Ideal.sqrt_coe, e, z, Words.select_of_iff (mask_at r s)]
  simp only [show ¬ (32 : ℝ) < 0 by norm_num, if_false]
  rfl

end Cert.ReferenceIdeal.At

end
-- ==== Proof.RefWindow.lean ====
module

public import proofs.«01_k».proof.Proof.RefScores

@[expose] public section

/-! # A running sum, in the reference -/

set_option maxRecDepth 16384

noncomputable section

namespace Cert.ReferenceIdeal.At

open Idealize.ShloMosaic
open Cert.ReferenceIdeal Cert.ReferenceIdeal.Gen Cert.ReferenceIdeal.Read Cert.Maths

theorem foldl_add {ι : Type} (g : ι → EReal) (l : List ι) (v : EReal) :
    l.foldl (fun r n => r + g n) v = v + (l.map g).sum := by
  induction l generalizing v with
  | nil => simp
  | cons a l ih => simp [ih, add_assoc]

theorem shifted (y : ℕ → EReal) (j : ℕ) (hj : j < 8) :
    (∑ n : Fin 8, if 7 ≤ j + n then y (j + n - 7) else 0) = ∑ i : Fin 8, if (i : ℕ) ≤ j then y i else 0 := by
  interval_cases j <;> simp [Fin.sum_univ_eight]

/-- The position of a window of eight along the third axis. -/
theorem place : ∀ (n : Fin (⟨6, ![1, 1, 8, 1, 1, 1]⟩ : Shape).numel) (a : Fin 6),
    ((⟨6, ![1, 1, 8, 1, 1, 1]⟩ : Shape).rowMajor.symm n a).val = if a = 2 then n.val else 0 := by
  decide +kernel

/-- A running sum along the third axis. -/
theorem running (x : FVec Ideal S8x64x8x16x32x32 .f32) (init : FVec Ideal S_ .f32) (h0 : init ix0 = 0)
    (a0 : Fin 8) (a1 : Fin 64) (j : Fin 8) (a3 : Fin 16) (a4 a5 : Fin 32) :
    Host.reduceWindowAdd ![1, 1, 8, 1, 1, 1] ![1, 1, 1, 1, 1, 1] ![0, 0, 7, 0, 0, 0] ![0, 0, 0, 0, 0, 0] x init
        reduceWindows_S8x64x8x16x32x32_S8x64x8x16x32x32_w1s1p0_0_w1s1p0_0_w8s1p7_0_w1s1p0_0_w1s1p0_0_w1s1p0_0 h_S_ (ix6 a0 a1 j a3 a4 a5)
      = ∑ i : Fin 8, if (i : ℕ) ≤ j then x (ix6 a0 a1 i a3 a4 a5) else 0 := by
  have hf : init (Shape.Idx.first h_S_) = 0 := by
    rw [show Shape.Idx.first h_S_ = ix0 from funext fun a => a.elim0, h0]
  let y : ℕ → EReal := fun i => if hi : i < 8 then x (ix6 a0 a1 ⟨i, hi⟩ a3 a4 a5) else 0
  change Host.reduceWindow (· + ·) ![1, 1, 8, 1, 1, 1] ![1, 1, 1, 1, 1, 1] ![0, 0, 7, 0, 0, 0] ![0, 0, 0, 0, 0, 0] x
    (fun _ : (⟨0, ![]⟩ : Shape).Idx => init (Shape.Idx.first h_S_))
    reduceWindows_S8x64x8x16x32x32_S8x64x8x16x32x32_w1s1p0_0_w1s1p0_0_w8s1p7_0_w1s1p0_0_w1s1p0_0_w1s1p0_0
    (by decide) (ix6 a0 a1 j a3 a4 a5) = _
  unfold Host.reduceWindow
  dsimp only
  rw [hf, foldl_add, zero_add, ← Fin.sum_univ_def]
  refine (Fintype.sum_equiv (finCongr (by decide : (⟨6, ![1, 1, 8, 1, 1, 1]⟩ : Shape).numel = 8)) _
    (fun n : Fin 8 => if 7 ≤ (j : ℕ) + n then y (j + n - 7) else 0) fun n => ?_).trans ((shifted y j j.isLt).trans ?_)
  · have hn : (n : ℕ) < 8 := n.isLt
    have p := place n
    by_cases h7 : 7 ≤ (j : ℕ) + n
    · have hi : (j : ℕ) + n - 7 < 8 := by omega
      refine Eq.trans (dif_pos ?_) (Eq.trans ?_ (if_pos h7).symm)
      · intro a
        rw [p a]
        fin_cases a <;> simp <;> omega
      · refine Eq.trans ?_ (dif_pos hi).symm
        refine congrArg x (funext fun a => Fin.ext ?_)
        dsimp only
        rw [p a]
        fin_cases a <;> simp
    · refine Eq.trans (dif_neg fun hh => h7 ?_) (if_neg h7).symm
      have := (hh 2).1
      rw [p 2] at this
      simpa using this
  · refine Finset.sum_congr rfl fun i _ => ?_
    rw [show y i = x (ix6 a0 a1 i a3 a4 a5) from dif_pos i.isLt]

end Cert.ReferenceIdeal.At

end
-- ==== Proof.RefTail.lean ====
module

public import proofs.«01_k».proof.Proof.RefWindow

@[expose] public section

/-! # The reference's tails -/

set_option maxRecDepth 16384

noncomputable section

namespace Cert.ReferenceIdeal.At

open Idealize.ShloMosaic
open Cert.ReferenceIdeal Cert.ReferenceIdeal.Gen Cert.ReferenceIdeal.Read Cert.Maths

variable {x0 : FVec Ideal S8x512x512 .f32} {x1 x2 x3 : FVec Ideal S512x512 .f32} {x4 : FVec Ideal S1024x32 .f32}
  {x5 : FVec Ideal S32 .f32} {x6 : FVec Ideal S1024x32 .f32} {x7 : FVec Ideal S32 .f32} {b : Fin 8} {I : Inputs}
  (R : Reads x0 x1 x2 x3 x4 x5 x6 x7 b I)
include R

/-- The sums over the tails -/
theorem tail_at (r : Fin 512) (h : Fin 16) (f : Fin 1024) :
    val_main_v108 (F := Ideal) x0 x2 x3 (ix4 b r h f) = ∑ t : Fin 512, if inTail r t then I.feat h t f else 0 := by
  pointwise [val_main_v108]
  unfold val_main_v107
  have z : val_main_call4_call0_v0 (F := Ideal) ix0 = 0 := by
    pointwise [val_main_call4_call0_v0, val_main_call4_call0_cst]
  refine (running _ _ z _ _ _ _ _ _).trans ?_
  have e (t : Fin 512) : (if inTail r t then I.feat h t f else 0)
      = if (t : ℕ) / 8 = (r : ℕ) / 8 then (if (t : ℕ) ≤ r then I.feat h t f else 0) else 0 := ite_and _ _ _ _
  refine Eq.trans ?_ (Finset.sum_congr rfl fun t _ => (e t).symm)
  refine Eq.trans ?_ (sum_block (L := 8) ((r : ℕ) / 8) (by omega) (by omega) _).symm
  refine Finset.sum_congr rfl fun i _ => ?_
  refine if_congr (by dsimp only; omega) ?_ rfl
  pointwise [val_main_v106, val_main_v105, val_main_v104, val_main_v103, val_main_v102, val_main_v101, val_main_v100]
  rw [k_at R, v_at R]
  rfl

/-- The tails' keys -/
theorem tailkey_at (r : Fin 512) (h : Fin 16) (d : Fin 32) :
    val_main_v112 (F := Ideal) x0 x2 x3 x4 x5 (ix4 b r h d) = I.summary I.wkm I.bkm h (inTail r) d := by
  rw [val_main_v112_apply, val_main_v109_apply]
  refine congrArg₂ (fun y z : EReal => y + z) (Finset.sum_congr rfl fun f _ => ?_) ?_
  · have el : lidx_main_v109 (ix4 b r h d) f = ix4 b r h f := by funext a; fin_cases a <;> rfl
    have er : ridx_main_v109 (ix4 b r h d) f = ix2 f d := by funext a; fin_cases a <;> rfl
    rw [el, er, tail_at R, R.wkm]
  · pointwise [val_main_v111, val_main_v110]
    exact R.bkm d

/-- and values. -/
theorem tailvalue_at (r : Fin 512) (h : Fin 16) (d : Fin 32) :
    val_main_v116 (F := Ideal) x0 x2 x3 x6 x7 (ix4 b r h d) = I.summary I.wvm I.bvm h (inTail r) d := by
  rw [val_main_v116_apply, val_main_v113_apply]
  refine congrArg₂ (fun y z : EReal => y + z) (Finset.sum_congr rfl fun f _ => ?_) ?_
  · have el : lidx_main_v113 (ix4 b r h d) f = ix4 b r h f := by funext a; fin_cases a <;> rfl
    have er : ridx_main_v113 (ix4 b r h d) f = ix2 f d := by funext a; fin_cases a <;> rfl
    rw [el, er, tail_at R, R.wvm]
  · pointwise [val_main_v115, val_main_v114]
    exact R.bvm d

/-- The tails' logits. -/
theorem tlogit_at (r : Fin 512) (h : Fin 16) :
    val_main_v121 (F := Ideal) x0 x1 x2 x3 x4 x5 (ix3 b r h) = I.tlogit h r := by
  have e : val_main_v118 (F := Ideal) x0 x1 x2 x3 x4 x5 (ix3 b r h)
      = ∑ d, I.q r (col h d) * I.summary I.wkm I.bkm h (inTail r) d := by
    rw [val_main_v118_apply]
    have z : val_main_cst_18 (F := Ideal) (Shape.Idx.first h_S_) = 0 := by pointwise [val_main_cst_18]
    rw [z, zero_add]
    refine Finset.sum_congr rfl fun d _ => ?_
    have ei : idx_main_v118 (ix3 b r h) d = ix4 b r h d := by funext a; fin_cases a <;> rfl
    rw [ei, val_main_v117_apply, q_at R, tailkey_at R]
    rfl
  have z : val_main_v120 (F := Ideal) (ix3 b r h) = Ideal.sqrt (Ideal.ofBits .f32 0x42000000#32) := by
    pointwise [val_main_v120, val_main_v119, val_main_cst_19]
  rw [val_main_v121_apply, z, thirtytwo, Ideal.sqrt_coe, e]
  simp only [show ¬ (32 : ℝ) < 0 by norm_num, if_false]
  rfl

end Cert.ReferenceIdeal.At

end
-- ==== Proof.RefSoftmax.lean ====
module

public import proofs.«01_k».proof.Proof.RefTail

@[expose] public section

/-! # The reference's averages and its result -/

set_option maxRecDepth 16384

noncomputable section

namespace Cert.ReferenceIdeal.At

open Idealize.ShloMosaic
open Cert.ReferenceIdeal Cert.ReferenceIdeal.Gen Cert.ReferenceIdeal.Read Cert.Maths

/-- Two arrays laid end to end along the last axis, read at an index. -/
theorem cat_at (X : FVec Ideal S8x16x512x127 .f32) (Y : FVec Ideal S8x16x512x1 .f32) (b : Fin 8) (h : Fin 16)
    (r : Fin 512) (s : Fin 128) :
    concatenate S8x16x512x128 3 [⟨S8x16x512x127, X⟩, ⟨S8x16x512x1, Y⟩]
        concatenates_S8x16x512x127_S8x16x512x1_S8x16x512x128_d3 (ix4 b h r s)
      = if hs : (s : ℕ) < 127 then X (ix4 b h r ⟨s, hs⟩) else Y (ix4 b h r ⟨s - 127, by omega⟩) := by
  pointwise

/-- The greatest entry along the last axis. -/
theorem max_at (X : FVec Ideal S8x16x512x128 .f32) (b : Fin 8) (h : Fin 16) (r : Fin 512) :
    Host.reduce FloatOps.maximumf X (constant (F := Ideal) S_ .f32 0xFF800000#32)
        reducesTo_S8x16x512x128_S8x16x512_d3 h_S_ (ix3 b h r)
      = Finset.univ.fold max ⊥ fun s => X (ix4 b h r s) := by
  pointwise
  rfl

variable {x0 : FVec Ideal S8x512x512 .f32} {x1 x2 x3 : FVec Ideal S512x512 .f32} {x4 : FVec Ideal S1024x32 .f32}
  {x5 : FVec Ideal S32 .f32} {x6 : FVec Ideal S1024x32 .f32} {x7 : FVec Ideal S32 .f32} {b : Fin 8} {I : Inputs}
  (R : Reads x0 x1 x2 x3 x4 x5 x6 x7 b I)
include R

/-- A row of logits: its sets' first -/
theorem row_set (h : Fin 16) (r : Fin 512) (s : Fin 127) :
    val_main_v124 (F := Ideal) x0 x1 x2 x3 x4 x5 (ix4 b h r s.castSucc) = I.logit h r s := by
  unfold val_main_v124
  rw [cat_at, dif_pos (show ((s.castSucc : Fin 128) : ℕ) < 127 from s.isLt)]
  exact logit_at R h r s

/-- and its tail's last. -/
theorem row_tail (h : Fin 16) (r : Fin 512) :
    val_main_v124 (F := Ideal) x0 x1 x2 x3 x4 x5 (ix4 b h r (Fin.last 127)) = I.tlogit h r := by
  unfold val_main_v124
  rw [cat_at, dif_neg (by simp), val_main_v123_apply, val_main_v122_apply]
  exact Eq.trans (congrArg _ (by funext a; fin_cases a <;> rfl)) (tlogit_at R r h)

/-- The greatest logit of a row. -/
theorem top_at (h : Fin 16) (r : Fin 512) :
    val_main_v127 (F := Ideal) x0 x1 x2 x3 x4 x5 (ix3 b h r) = top (I.logit h r) (I.tlogit h r) := by
  have z : val_main_v126 (F := Ideal) (ix3 b h r) = ⊥ := by
    pointwise [val_main_v126, val_main_cst_21]
    rfl
  have e : val_main_v125 (F := Ideal) x0 x1 x2 x3 x4 x5 (ix3 b h r)
      = Finset.univ.fold max ⊥ fun s => val_main_v124 (F := Ideal) x0 x1 x2 x3 x4 x5 (ix4 b h r s) := max_at _ b h r
  rw [val_main_v127_apply, z, e, fold_max_snoc, row_tail R]
  simp only [row_set R]
  exact max_eq_right bot_le

/-- The exponentials of a row. -/
theorem exp_at (h : Fin 16) (r : Fin 512) (s : Fin 128) :
    val_main_v131 (F := Ideal) x0 x1 x2 x3 x4 x5 (ix4 b h r s)
      = Ideal.exp (val_main_v124 (F := Ideal) x0 x1 x2 x3 x4 x5 (ix4 b h r s) - top (I.logit h r) (I.tlogit h r)) := by
  have e : val_main_v129 (F := Ideal) x0 x1 x2 x3 x4 x5 (ix4 b h r s) = top (I.logit h r) (I.tlogit h r) := by
    rw [val_main_v129_apply, val_main_v128_apply]
    exact Eq.trans (congrArg _ (by funext a; fin_cases a <;> rfl)) (top_at R h r)
  rw [val_main_v131_apply, val_main_v130_apply, e]
  rfl

/-- The sum of a row's exponentials. -/
theorem total_at (h : Fin 16) (r : Fin 512) :
    val_main_v132 (F := Ideal) x0 x1 x2 x3 x4 x5 (ix3 b h r) = total (I.logit h r) (I.tlogit h r) := by
  have z : val_main_cst_22 (F := Ideal) (Shape.Idx.first h_S_) = 0 := by pointwise [val_main_cst_22]
  have e (k : Fin 128) : idx_main_v132 (ix3 b h r) k = ix4 b h r k := by funext a; fin_cases a <;> rfl
  rw [val_main_v132_apply, z, zero_add]
  simp only [e, exp_at R]
  rw [Fin.sum_univ_castSucc, row_tail R]
  simp only [row_set R]
  rfl

/-- The weights of a row. -/
theorem weight_at (h : Fin 16) (r : Fin 512) (s : Fin 128) :
    val_main_v135 (F := Ideal) x0 x1 x2 x3 x4 x5 (ix4 b h r s)
      = Ideal.div (Ideal.exp (val_main_v124 (F := Ideal) x0 x1 x2 x3 x4 x5 (ix4 b h r s)
          - top (I.logit h r) (I.tlogit h r))) (total (I.logit h r) (I.tlogit h r)) := by
  have e : val_main_v134 (F := Ideal) x0 x1 x2 x3 x4 x5 (ix4 b h r s) = total (I.logit h r) (I.tlogit h r) := by
    rw [val_main_v134_apply, val_main_v133_apply]
    exact Eq.trans (congrArg _ (by funext a; fin_cases a <;> rfl)) (total_at R h r)
  rw [val_main_v135_apply, e, exp_at R]
  rfl

/-- The weight of a set -/
theorem weight_set (h : Fin 16) (r : Fin 512) (s : Fin 127) :
    val_main_v136 (F := Ideal) x0 x1 x2 x3 x4 x5 (ix4 b h r s)
      = Ideal.div (Ideal.exp (I.logit h r s - top (I.logit h r) (I.tlogit h r)))
          (total (I.logit h r) (I.tlogit h r)) := by
  rw [val_main_v136_apply]
  refine Eq.trans (congrArg _ (a₂ := ix4 b h r s.castSucc) (by funext a; fin_cases a <;> rfl)) ?_
  rw [weight_at R, row_set R]

/-- and of the tail. -/
theorem weight_tail (h : Fin 16) (r : Fin 512) (d : Fin 32) :
    val_main_v143 (F := Ideal) x0 x1 x2 x3 x4 x5 (ix4 b r h d)
      = Ideal.div (Ideal.exp (I.tlogit h r - top (I.logit h r) (I.tlogit h r)))
          (total (I.logit h r) (I.tlogit h r)) := by
  rw [val_main_v143_apply, val_main_v142_apply, val_main_v141_apply, val_main_v140_apply, val_main_v139_apply]
  refine Eq.trans (congrArg _ (a₂ := ix4 b h r (Fin.last 127)) ?_) ?_
  · funext a
    fin_cases a <;> refine Fin.ext ?_ <;> dsimp <;> omega
  rw [weight_at R, row_tail R]

/-- The average over the sets and the tail. -/
theorem out_at (H : I.Finite) (h : Fin 16) (r : Fin 512) (d : Fin 32) :
    val_main_v145 (F := Ideal) x0 x1 x2 x3 x4 x5 x6 x7 (ix4 b r h d) = I.out h r d := by
  have e : val_main_v138 (F := Ideal) x0 x1 x2 x3 x4 x5 x6 x7 (ix4 b r h d)
      = ∑ s : Fin 127, I.summary I.wvm I.bvm h (inSet s) d
          * Ideal.div (Ideal.exp (I.logit h r s - top (I.logit h r) (I.tlogit h r)))
            (total (I.logit h r) (I.tlogit h r)) := by
    rw [val_main_v138_apply, val_main_v137_apply]
    refine Finset.sum_congr rfl fun s _ => ?_
    have el : lidx_main_v137 (idx_main_v138 (ix4 b r h d)) s = ix4 b s h d := by funext a; fin_cases a <;> rfl
    have er : ridx_main_v137 (idx_main_v138 (ix4 b r h d)) s = ix4 b h r s := by funext a; fin_cases a <;> rfl
    rw [el, er, value_at R, weight_set R]
  rw [val_main_v145_apply, val_main_v144_apply, e, weight_tail R, tailvalue_at R]
  exact (average_eq _ _ _ _ (fun s => I.logit_ne_top H h r s) (I.fin_tlogit H h r)).symm

/-- The reference's result. -/
theorem result_at (H : I.Finite) (x8 : FVec Ideal S512x512 .f32) (t n : Fin 512) :
    val_main_v147 (F := Ideal) x0 x1 x2 x3 x4 x5 x6 x7 x8 (ix3 b t n)
      = ∑ k : Fin 512, I.out ⟨(k : ℕ) / 32, by omega⟩ t ⟨(k : ℕ) % 32, by omega⟩ * x8 (ix2 k n) := by
  rw [val_main_v147_apply]
  refine Finset.sum_congr rfl fun k _ => ?_
  have er : ridx_main_v147 (ix3 b t n) k = ix2 k n := by funext a; fin_cases a <;> rfl
  have el : idx_main_v146 (lidx_main_v147 (ix3 b t n) k)
      = ix4 b t ⟨(k : ℕ) / 32, by omega⟩ ⟨(k : ℕ) % 32, by omega⟩ := by
    funext a
    fin_cases a <;> refine Fin.ext ?_ <;> dsimp <;> omega
  rw [er, val_main_v146_apply, el, out_at R H]

end Cert.ReferenceIdeal.At

end
-- ==== Proof.Finite.lean ====
/- Which entries the precondition makes real numbers. -/
module

public import proofs.«01_k».proof.Defs
public import proofs.«01_k».proof.Proof.Given
public import proofs.«01_k».proof.Proof.Gen.Pre_finite
public import Idealize.ShloMosaic.Lib.ReduceAll
public import Idealize.ShloMosaic.Lib.Pointwise

@[expose] public section

noncomputable section

namespace Cert.Pre_finite.Say

open Idealize.ShloMosaic
open Cert.Pre_finite Cert.Pre_finite.Facts Cert.Maths Cert.KernelIdeal.Host

/-- An entry smaller in size than infinity is a real number. -/
theorem entry {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    Fin' (x i) := by
  have z : Ideal.ofBits .f32 0x7F800000#32 = ⊤ := rfl
  have e' : Ideal.cmp .olt (max (x i) (-(x i))) (Ideal.ofBits .f32 0x7F800000#32) = 1#1 := e
  rw [z] at e'
  have e'' : max (x i) (-(x i)) < ⊤ := by
    by_contra hn
    simp [Ideal.cmp, hn] at e'
  rw [max_lt_iff] at e''
  exact ⟨e''.1.ne, fun hb => by rw [hb] at e''; exact absurd e''.2 (by simp)⟩

/-- The two sides of an `and` that is one are one. -/
theorem both {x y : IVec S_ 1} (e : andi x y = fun _ => 1#1) : x = (fun _ => 1#1) ∧ y = fun _ => 1#1 :=
  ⟨funext fun i => (IntOp.andi_eq_one.1 (congrFun e i)).1, funext fun i => (IntOp.andi_eq_one.1 (congrFun e i)).2⟩

/-- The seven arrays whose entries the precondition makes real numbers. -/
theorem arrays (a0 : FVec Ideal S8x512x512 .f32) (a1 a2 a3 : FVec Ideal S512x512 .f32) (a4 : FVec Ideal S1024x32 .f32) (a5 : FVec Ideal S32 .f32)
    (a6 : FVec Ideal S1024x32 .f32) (a7 : FVec Ideal S32 .f32) (a8 : FVec Ideal S512x512 .f32)
    (e : fn (F := Ideal) a0 a1 a2 a3 a4 a5 a6 a7 a8 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) ∧ (∀ i, Fin' (a6 i)) := by
  obtain ⟨e, e6⟩ := both e
  obtain ⟨e, e5⟩ := both e
  obtain ⟨e, e4⟩ := both e
  obtain ⟨e, e3⟩ := both e
  obtain ⟨e, e2⟩ := both e
  obtain ⟨e, e1⟩ := both e
  obtain ⟨_, e0⟩ := both e
  have : Subsingleton S_.Idx := ⟨fun a b => funext fun k => k.elim0⟩
  exact ⟨fun i => entry _ _ i (Host.reduce_andi_all _ _ _ _ _ (congrFun e0 fun k => k.elim0) i),
    fun i => entry _ _ i (Host.reduce_andi_all _ _ _ _ _ (congrFun e1 fun k => k.elim0) i),
    fun i => entry _ _ i (Host.reduce_andi_all _ _ _ _ _ (congrFun e2 fun k => k.elim0) i),
    fun i => entry _ _ i (Host.reduce_andi_all _ _ _ _ _ (congrFun e3 fun k => k.elim0) i),
    fun i => entry _ _ i (Host.reduce_andi_all _ _ _ _ _ (congrFun e4 fun k => k.elim0) i),
    fun i => entry _ _ i (Host.reduce_andi_all _ _ _ _ _ (congrFun e5 fun k => k.elim0) i),
    fun i => entry _ _ i (Host.reduce_andi_all _ _ _ _ _ (congrFun e6 fun k => k.elim0) i)⟩

/-- Under the precondition every batch's inputs are finite. -/
theorem inputs_finite (a0 : FVec Ideal S8x512x512 .f32) (a1 a2 a3 : FVec Ideal S512x512 .f32) (a4 : FVec Ideal S1024x32 .f32)
    (a5 : FVec Ideal S32 .f32) (a6 : FVec Ideal S1024x32 .f32) (a7 : FVec Ideal S32 .f32) (a8 : FVec Ideal S512x512 .f32)
    (e : fn (F := Ideal) a0 a1 a2 a3 a4 a5 a6 a7 a8 = fun _ => 1#1) (b : Fin 8) :
    (inputs a0 a1 a2 a3 a4 a5 a6 a7 b).Finite := by
  obtain ⟨h0, h1, h2, h3, h4, h5, h6⟩ := arrays a0 a1 a2 a3 a4 a5 a6 a7 a8 e
  exact ⟨fun _ _ => h0 _, fun _ _ => h1 _, fun _ _ => h2 _, fun _ _ => h3 _, fun _ _ => h4 _, fun _ => h5 _, fun _ _ => h6 _⟩

end Cert.Pre_finite.Say

end
-- ==== Proof.Equal.lean ====
/- The kernel's result is the reference's. -/
module

public import proofs.«01_k».proof.Proof.Windows
public import proofs.«01_k».proof.Proof.RefSoftmax
public import proofs.«01_k».proof.Proof.Finite

@[expose] public section

noncomputable section

namespace Cert.Proof

open Idealize.ShloMosaic Idealize.ShloMosaic.TcCoe Idealize.SL.Sem
open Cert.KernelIdeal Cert.KernelIdeal.Gen Cert.KernelIdeal.Host Cert.Maths

/-- The reference reads the inputs the kernel is given. -/
theorem reads (x0 : FVec Ideal S8x512x512 .f32) (x1 x2 x3 : FVec Ideal S512x512 .f32) (x4 : FVec Ideal S1024x32 .f32)
    (x5 : FVec Ideal S32 .f32) (x6 : FVec Ideal S1024x32 .f32) (x7 : FVec Ideal S32 .f32) (b : Fin 8) :
    Cert.ReferenceIdeal.At.Reads x0 x1 x2 x3 x4 x5 x6 x7 b (inputs x0 x1 x2 x3 x4 x5 x6 x7 b) :=
  ⟨fun _ _ => rfl, fun _ _ => rfl, fun _ _ => rfl, fun _ _ => rfl, fun _ _ => rfl, fun _ => rfl, fun _ _ => rfl, fun _ => rfl⟩

/-- The kernel's array after its run is the reference's result, of the same arguments. -/
theorem equal (m : (ℓ : Loc nD τ sig) → Buf (Elt Ideal) ℓ) (c : Dev nD)
    (e : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    ((dats m 0 c).arrAt 9 cfg0.N : FVec Ideal S8x512x512 .f32)
      = Cert.ReferenceIdeal.Read.val_main_v147 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) := by
  have H : ∀ b, (given m c b).Finite := fun b => Cert.Pre_finite.Say.inputs_finite _ _ _ _ _ _ _ _ _ e b
  funext i
  obtain ⟨b, t, n, rfl⟩ : ∃ (b : Fin 8) (t n : Fin 512), i = (ix3 b t n : S8x512x512.Idx) :=
    ⟨i 0, i 1, i 2, by funext a; fin_cases a <;> rfl⟩
  exact (final m c H b t n).trans (Cert.ReferenceIdeal.At.result_at (reads _ _ _ _ _ _ _ _ b) (H b) _ t n).symm

end Cert.Proof

end
-- ==== Proof.lean ====
/- The claims, assembled: the frames of the kernel and of the reference, the named constants, and the equation of the
   two results. -/
module

public import proofs.«01_k».proof.Defs
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The named constants stand for the words they replace. -/
theorem preserves : Cert.preserves_Kernel_KernelIdeal :=
  ⟨IdealRules.named_const.statement Cert.KernelIdeal.κ "scale" .f32 0x3E3504F3#32 _ rfl,
    IdealRules.named_const.statement Cert.KernelIdeal.κ "mask" .f32 0xF149F2CA#32 ⊥ rfl⟩

/-- The kernel and the reference end with the same result. -/
theorem algebraic : Cert.algebraic_KernelIdeal_ReferenceIdeal_pre_finite := by
  intro m g m' g' hpre hagree
  refine ⟨fun c => (Cert.KernelIdeal.Gen.dats m 0 c).arrAt 9 Cert.KernelIdeal.cfg0.N, ?_, ?_⟩
  · exact (θ_run Cert.KernelIdeal.defs _ _).mono (fun _ h c => h c) (Cert.KernelIdeal.Value.run_blocks m g)
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8⟩ := hagree c
  refine Eq.trans ?_ (equal m c (hpre c)).symm
  rw [← h0, ← h1, ← h2, ← h3, ← h4, ← h5, ← h6, ← h7, ← h8]
  rfl

/-- All the claims. -/
theorem claim : Cert.Claim := ⟨Cert.Kernel.Gen.facts, Cert.KernelIdeal.Gen.facts, Cert.ReferenceIdeal.Gen.facts,
  Cert.Pre_finite.Gen.facts,
  fun m g _ => Cert.Kernel.Gen.frame m g, fun m g _ => Cert.KernelIdeal.Gen.frame m g,
  fun m g _ => Cert.KernelIdeal.Gen.frame m g, reference_frame, fun m g _ => reference_frame m g trivial,
  preserves, algebraic⟩

end Cert.Proof

end
